-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S2048x512 : Shape := ⟨2, ![2048, 512]⟩
abbrev S16x512 : Shape := ⟨2, ![16, 512]⟩
abbrev S16x1x512 : Shape := ⟨3, ![16, 1, 512]⟩
abbrev S1x2048x512 : Shape := ⟨3, ![1, 2048, 512]⟩
abbrev S16x2048x512 : Shape := ⟨3, ![16, 2048, 512]⟩
abbrev S_ : Shape := ⟨0, ![]⟩
abbrev S16x2048 : Shape := ⟨2, ![16, 2048]⟩
abbrev S16x2048x1 : Shape := ⟨3, ![16, 2048, 1]⟩
abbrev S2048x2048 : Shape := ⟨2, ![2048, 2048]⟩
abbrev S2048x65 : Shape := ⟨2, ![2048, 65]⟩
abbrev S2048x1 : Shape := ⟨2, ![2048, 1]⟩
abbrev S2048 : Shape := ⟨1, ![2048]⟩

class Facts : Prop where
  bcast_S16x512_S16x1x512_0_2 : S16x512.BroadcastsInDim S16x1x512 (![0, 2] : Fin 2 → Fin S16x1x512.rank)
  bcast_S2048x512_S1x2048x512_1_2 : S2048x512.BroadcastsInDim S1x2048x512 (![1, 2] : Fin 2 → Fin S1x2048x512.rank)
  bcast_S1x2048x512_S16x2048x512_0_1_2 : S1x2048x512.BroadcastsInDim S16x2048x512 (![0, 1, 2] : Fin 3 → Fin S16x2048x512.rank)
  bcast_S16x1x512_S16x2048x512_0_1_2 : S16x1x512.BroadcastsInDim S16x2048x512 (![0, 1, 2] : Fin 3 → Fin S16x2048x512.rank)
  reducesTo_S16x2048x512_S16x2048_d2 : S16x2048x512.ReducesTo [2] S16x2048
  h_S_ : 0 < S_.numel
  bcast_S16x2048_S16x2048x1_0_1 : S16x2048.BroadcastsInDim S16x2048x1 (![0, 1] : Fin 2 → Fin S16x2048x1.rank)
  bcast_S_S16x2048x1 : S_.BroadcastsInDim S16x2048x1 (![] : Fin 0 → Fin S16x2048x1.rank)
  bcast_S16x2048x1_S16x2048x512_0_1_2 : S16x2048x1.BroadcastsInDim S16x2048x512 (![0, 1, 2] : Fin 3 → Fin S16x2048x512.rank)
  bcast_S_S2048x2048 : S_.BroadcastsInDim S2048x2048 (![] : Fin 0 → Fin S2048x2048.rank)
  sliceFits_S2048x2048_S2048x65 : S2048x2048.Slices (fun _ => 0) S2048x65
  slices_S2048x65_S2048x1_0_63 : S2048x65.Slices ![0, 63] S2048x1
  shapeCasts_S2048x1_S2048 : S2048x1.ShapeCasts S2048
  slices_S2048x65_S2048x1_0_64 : S2048x65.Slices ![0, 64] S2048x1
  bcast_S_S2048 : S_.BroadcastsInDim S2048 (![] : Fin 0 → Fin S2048.rank)
  reducesTo_S2048_S_d0 : S2048.ReducesTo [0] S_
  dot_S16x2048x512_S16x2048x512_S2048x2048_20_20_1_1_n_n_wf : DotDims.WF S16x2048x512 S16x2048x512 S2048x2048 [2, 0] [2, 0] [1] [1] [] []

variable [Facts]

def dot_S16x2048x512_S16x2048x512_S2048x2048_20_20_1_1_n_n : DotDims S16x2048x512 S16x2048x512 S2048x2048 where
  lhsContracting := [2, 0]
  rhsContracting := [2, 0]
  lhsNonContracting := [1]
  rhsNonContracting := [1]
  lhsBatch := []
  rhsBatch := []
  wf := dot_S16x2048x512_S16x2048x512_S2048x2048_20_20_1_1_n_n_wf
def fn_part1 {F : FTy → Type} [FloatOps F] (main_values : FVec F S2048x65 .f32) (main_v17 : FVec F S2048 .f32) (main_v18 : FVec F S2048x1 .f32) : IVec S_ 1 :=
  let main_v19 : FVec F S2048 .f32 := shapeCast S2048 main_v18 shapeCasts_S2048x1_S2048
  let main_v20 : FVec F S2048 .f32 := subf main_v17 main_v19
  let main_v21 : FVec F S2048x1 .f32 := (extractStridedSlice S2048x1 ![0, 64] · slices_S2048x65_S2048x1_0_64) main_values
  let main_v22 : FVec F S2048 .f32 := shapeCast S2048 main_v21 shapeCasts_S2048x1_S2048
  let main_v23 : FVec F S2048 .f32 := Host.absf main_v22
  let main_cst_2 : FVec F S_ .f32 := constant S_ .f32 0x34000000#32
  let main_v24 : FVec F S2048 .f32 := broadcastInDim S2048 ![] bcast_S_S2048 main_cst_2
  let main_v25 : FVec F S2048 .f32 := mulf main_v23 main_v24
  let main_cst_3 : FVec F S_ .f32 := constant S_ .f32 0x00800000#32
  let main_v26 : FVec F S2048 .f32 := broadcastInDim S2048 ![] bcast_S_S2048 main_cst_3
  let main_v27 : FVec F S2048 .f32 := addf main_v25 main_v26
  let main_v28 : IVec S2048 1 := cmpf .oge main_v20 main_v27
  let main_c : IVec S_ 1 := constantI S_ 1 1#1
  let main_v29 : IVec S_ 1 := (fun x v => Host.reduce IntOp.andi x v reducesTo_S2048_S_d0 h_S_) main_v28 main_c
  main_v29

def fn {F : FTy → Type} [FloatOps F] (main_arg0 : FVec F S2048x512 .f32) (main_arg1 : FVec F S16x512 .f32) : IVec S_ 1 :=
  let main_v0 : FVec F S16x1x512 .f32 := broadcastInDim S16x1x512 ![0, 2] bcast_S16x512_S16x1x512_0_2 main_arg1
  let main_v1 : FVec F S1x2048x512 .f32 := broadcastInDim S1x2048x512 ![1, 2] bcast_S2048x512_S1x2048x512_1_2 main_arg0
  let main_v2 : FVec F S16x2048x512 .f32 := broadcastInDim S16x2048x512 ![0, 1, 2] bcast_S1x2048x512_S16x2048x512_0_1_2 main_v1
  let main_v3 : FVec F S16x2048x512 .f32 := broadcastInDim S16x2048x512 ![0, 1, 2] bcast_S16x1x512_S16x2048x512_0_1_2 main_v0
  let main_v4 : FVec F S16x2048x512 .f32 := mulf main_v2 main_v3
  let main_v5 : FVec F S16x2048x512 .f32 := mulf main_v4 main_v4
  let main_cst : FVec F S_ .f32 := constant S_ .f32 0x00000000#32
  let main_v6 : FVec F S16x2048 .f32 := (fun x v => Host.reduceAdd x v reducesTo_S16x2048x512_S16x2048_d2 h_S_) main_v5 main_cst
  let main_v7 : FVec F S16x2048x1 .f32 := broadcastInDim S16x2048x1 ![0, 1] bcast_S16x2048_S16x2048x1_0_1 main_v6
  let main_v8 : FVec F S16x2048x1 .f32 := Host.sqrt main_v7
  let main_cst_0 : FVec F S_ .f32 := constant S_ .f32 0x2B8CBCCC#32
  let main_v9 : FVec F S16x2048x1 .f32 := broadcastInDim S16x2048x1 ![] bcast_S_S16x2048x1 main_cst_0
  let main_v10 : FVec F S16x2048x1 .f32 := maximumf main_v8 main_v9
  let main_v11 : FVec F S16x2048x512 .f32 := broadcastInDim S16x2048x512 ![0, 1, 2] bcast_S16x2048x1_S16x2048x512_0_1_2 main_v10
  let main_v12 : FVec F S16x2048x512 .f32 := Host.divf main_v4 main_v11
  let main_v13 : FVec F S2048x2048 .f32 := (fun l r => Host.dotGeneral dot_S16x2048x512_S16x2048x512_S2048x2048_20_20_1_1_n_n none l r) main_v12 main_v12
  let main_cst_1 : FVec F S_ .f32 := constant S_ .f32 0x41800000#32
  let main_v14 : FVec F S2048x2048 .f32 := broadcastInDim S2048x2048 ![] bcast_S_S2048x2048 main_cst_1
  let main_v15 : FVec F S2048x2048 .f32 := Host.divf main_v13 main_v14
  let main_values : FVec F S2048x65 .f32 := (fun x => (Host.topK S2048x65 1 (FloatOps.cmpfTotal .gt) x sliceFits_S2048x2048_S2048x65).1) main_v15
  let main_indices : IVec S2048x65 32 := (fun x => (Host.topK S2048x65 1 (FloatOps.cmpfTotal .gt) x sliceFits_S2048x2048_S2048x65).2) main_v15
  let main_v16 : FVec F S2048x1 .f32 := (extractStridedSlice S2048x1 ![0, 63] · slices_S2048x65_S2048x1_0_63) main_values
  let main_v17 : FVec F S2048 .f32 := shapeCast S2048 main_v16 shapeCasts_S2048x1_S2048
  let main_v18 : FVec F S2048x1 .f32 := (extractStridedSlice S2048x1 ![0, 64] · slices_S2048x65_S2048x1_0_64) main_values
  fn_part1 (F := F) main_values main_v17 main_v18
-- ==== Kernel.lean ====
abbrev S2048x512 : Shape := ⟨2, ![2048, 512]⟩
abbrev S16x512 : Shape := ⟨2, ![16, 512]⟩
abbrev S2048x16 : Shape := ⟨2, ![2048, 16]⟩
abbrev S2048x2048 : Shape := ⟨2, ![2048, 2048]⟩
abbrev S512x512 : Shape := ⟨2, ![512, 512]⟩
abbrev S512x16 : Shape := ⟨2, ![512, 16]⟩
abbrev S512x2048 : Shape := ⟨2, ![512, 2048]⟩
abbrev S512x8192 : Shape := ⟨2, ![512, 8192]⟩
abbrev S1536x1536 : Shape := ⟨2, ![1536, 1536]⟩
abbrev S1x512 : Shape := ⟨2, ![1, 512]⟩
abbrev S512 : Shape := ⟨1, ![512]⟩
abbrev S512x1 : Shape := ⟨2, ![512, 1]⟩

abbrev nBuf : Space → Nat
  | .hbm => 4
  | .vmem => 13
  | .smem => 0
  | _ => 0

abbrev bufTy : (tb : Table) → Fin (tcTables nBuf tb) → BufTy
  | .hbm, ⟨0, _⟩ => ⟨S2048x512, .f32⟩
  | .hbm, ⟨1, _⟩ => ⟨S16x512, .f32⟩
  | .hbm, ⟨2, _⟩ => ⟨S2048x16, .f32⟩
  | .hbm, ⟨3, _⟩ => ⟨S2048x2048, .f32⟩
  | .local _ .vmem, ⟨0, _⟩ => ⟨S512x512, .f32⟩
  | .local _ .vmem, ⟨1, _⟩ => ⟨S512x512, .f32⟩
  | .local _ .vmem, ⟨2, _⟩ => ⟨S16x512, .f32⟩
  | .local _ .vmem, ⟨3, _⟩ => ⟨S512x16, .f32⟩
  | .local _ .vmem, ⟨4, _⟩ => ⟨S512x16, .f32⟩
  | .local _ .vmem, ⟨5, _⟩ => ⟨S2048x512, .f32⟩
  | .local _ .vmem, ⟨6, _⟩ => ⟨S16x512, .f32⟩
  | .local _ .vmem, ⟨7, _⟩ => ⟨S2048x16, .f32⟩
  | .local _ .vmem, ⟨8, _⟩ => ⟨S512x2048, .f32⟩
  | .local _ .vmem, ⟨9, _⟩ => ⟨S512x2048, .f32⟩
  | .local _ .vmem, ⟨10, _⟩ => ⟨S512x8192, .f32⟩
  | .local _ .vmem, ⟨11, _⟩ => ⟨S512x8192, .f32⟩
  | .local _ .vmem, ⟨12, _⟩ => ⟨S1536x1536, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc1_scratch0 : Ref sig .tc := ⟨.vmem, 10, rfl⟩
abbrev cc1_scratch1 : Ref sig .tc := ⟨.vmem, 11, rfl⟩
abbrev cc1_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 4], ![false, false]⟩

def k1_cond1 (i : grid1.Coords) : BitVec 1 :=
  let arg1 : BitVec 32 := BitVec.ofNat 32 (i 1).val
  let c0_i32 : BitVec 32 := 0#32
  let v1 : BitVec 1 := Scalar.cmpi .eq arg1 c0_i32
  let v2 : BitVec 32 := Scalar.extui v1
  let c0_i32_1 : BitVec 32 := 0#32
  let v3 : BitVec 1 := Scalar.cmpi .ne v2 c0_i32_1
  v3

def k1_off1 (i : grid1.Coords) : Fin 2 → Nat :=
  let arg0 : BitVec 32 := BitVec.ofNat 32 (i 0).val
  let c512_i32 : BitVec 32 := 512#32
  let v13 : BitVec 32 := Scalar.muli arg0 c512_i32
  let v14 : Index := Scalar.indexCast v13
  let c0_5 : Index := 0#32
  ![v14.toNat, 0]
def k1_off2 (i : grid1.Coords) : Fin 2 → Nat :=
  let arg0 : BitVec 32 := BitVec.ofNat 32 (i 0).val
  let c512_i32_6 : BitVec 32 := 512#32
  let v16 : BitVec 32 := Scalar.muli arg0 c512_i32_6
  let v17 : Index := Scalar.indexCast v16
  let c0_7 : Index := 0#32
  ![v17.toNat, 0]
def k1_cond2 (i : grid1.Coords) : BitVec 1 :=
  let arg1 : BitVec 32 := BitVec.ofNat 32 (i 1).val
  let arg0 : BitVec 32 := BitVec.ofNat 32 (i 0).val
  let v4 : BitVec 1 := Scalar.cmpi .sge arg1 arg0
  let v5 : BitVec 32 := Scalar.extui v4
  let c0_i32_2 : BitVec 32 := 0#32
  let v6 : BitVec 1 := Scalar.cmpi .ne v5 c0_i32_2
  v6

def k1_off3 (i : grid1.Coords) : Fin 2 → Nat :=
  let arg1 : BitVec 32 := BitVec.ofNat 32 (i 1).val
  let c512_i32 : BitVec 32 := 512#32
  let v13 : BitVec 32 := Scalar.muli arg1 c512_i32
  let v14 : Index := Scalar.indexCast v13
  let c0_5 : Index := 0#32
  ![v14.toNat, 0]
def k1_off4 (i : grid1.Coords) : Fin 2 → Nat :=
  let arg1 : BitVec 32 := BitVec.ofNat 32 (i 1).val
  let c512_i32_6 : BitVec 32 := 512#32
  let v16 : BitVec 32 := Scalar.muli arg1 c512_i32_6
  let v17 : Index := Scalar.indexCast v16
  let c0_7 : Index := 0#32
  ![v17.toNat, 0]
def k1_off5 (i : grid1.Coords) : Fin 2 → Nat :=
  let c0_31 : Index := 0#32
  let arg1 : BitVec 32 := BitVec.ofNat 32 (i 1).val
  let c512_i32_30 : BitVec 32 := 512#32
  let v233 : BitVec 32 := Scalar.muli arg1 c512_i32_30
  let v234 : Index := Scalar.indexCast v233
  ![0, v234.toNat]
def k1_cond3 (i : grid1.Coords) : BitVec 1 :=
  let arg1 : BitVec 32 := BitVec.ofNat 32 (i 1).val
  let arg0 : BitVec 32 := BitVec.ofNat 32 (i 0).val
  let c1_i32 : BitVec 32 := 1#32
  let v236 : BitVec 32 := Scalar.addi arg0 c1_i32
  let v237 : BitVec 1 := Scalar.cmpi .sge arg1 v236
  let v238 : BitVec 32 := Scalar.extui v237
  let c0_i32_32 : BitVec 32 := 0#32
  let v239 : BitVec 1 := Scalar.cmpi .ne v238 c0_i32_32
  v239

def k1_off6 (i : grid1.Coords) : Fin 2 → Nat :=
  let arg1 : BitVec 32 := BitVec.ofNat 32 (i 1).val
  let c512_i32_33 : BitVec 32 := 512#32
  let v241 : BitVec 32 := Scalar.muli arg1 c512_i32_33
  let c512_i32_34 : BitVec 32 := 512#32
  let v242 : BitVec 32 := Scalar.subi v241 c512_i32_34
  let v244 : Index := Scalar.indexCast v242
  let arg0 : BitVec 32 := BitVec.ofNat 32 (i 0).val
  let c512_i32_35 : BitVec 32 := 512#32
  let v243 : BitVec 32 := Scalar.muli arg0 c512_i32_35
  let v245 : Index := Scalar.indexCast v243
  ![v244.toNat, v245.toNat]
def k1_cond4 (i : grid1.Coords) : BitVec 1 :=
  let arg1 : BitVec 32 := BitVec.ofNat 32 (i 1).val
  let arg0 : BitVec 32 := BitVec.ofNat 32 (i 0).val
  let v7 : BitVec 1 := Scalar.cmpi .slt arg1 arg0
  let v8 : BitVec 32 := Scalar.extui v7
  let c0_i32_3 : BitVec 32 := 0#32
  let v9 : BitVec 1 := Scalar.cmpi .ne v8 c0_i32_3
  v9

def k1_off7 (i : grid1.Coords) : Fin 2 → Nat :=
  let arg0 : BitVec 32 := BitVec.ofNat 32 (i 0).val
  let c512_i32 : BitVec 32 := 512#32
  let v13 : BitVec 32 := Scalar.muli arg0 c512_i32
  let c512_i32_5 : BitVec 32 := 512#32
  let v14 : BitVec 32 := Scalar.subi v13 c512_i32_5
  let v16 : Index := Scalar.indexCast v14
  let arg1 : BitVec 32 := BitVec.ofNat 32 (i 1).val
  let c512_i32_6 : BitVec 32 := 512#32
  let v15 : BitVec 32 := Scalar.muli arg1 c512_i32_6
  let v17 : Index := Scalar.indexCast v15
  ![v16.toNat, v17.toNat]
def k1_off8 (i : grid1.Coords) : Fin 2 → Nat :=
  let c0_8 : Index := 0#32
  let arg1 : BitVec 32 := BitVec.ofNat 32 (i 1).val
  let c512_i32_7 : BitVec 32 := 512#32
  let v19 : BitVec 32 := Scalar.muli arg1 c512_i32_7
  let v20 : Index := Scalar.indexCast v19
  ![0, v20.toNat]
def k1_cond5 (i : grid1.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_4 : BitVec 32 := 0#32
  let v12 : BitVec 1 := Scalar.cmpi .ne v11 c0_i32_4
  v12

@[reducible] def k1_t1_loop : Scf.Loop 32 :=
  let c0_i32_5 : BitVec 32 := 0#32
  let c31_i32 : BitVec 32 := 31#32
  let v15 : BitVec 32 := Scalar.addi c0_i32_5 c31_i32
  let c1_i32 : BitVec 32 := 1#32
  ⟨c0_i32_5, v15, c1_i32⟩
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 1 → Memref sig .tc .vmem S2048x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S16x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S2048x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]
-- ==== ReferenceIdeal.lean ====
abbrev S2048x512 : Shape := ⟨2, ![2048, 512]⟩
abbrev S16x512 : Shape := ⟨2, ![16, 512]⟩
abbrev S16x1x512 : Shape := ⟨3, ![16, 1, 512]⟩
abbrev S1x2048x512 : Shape := ⟨3, ![1, 2048, 512]⟩
abbrev S16x2048x512 : Shape := ⟨3, ![16, 2048, 512]⟩
abbrev S_ : Shape := ⟨0, ![]⟩
abbrev S16x2048 : Shape := ⟨2, ![16, 2048]⟩
abbrev S16x2048x1 : Shape := ⟨3, ![16, 2048, 1]⟩
abbrev S16x512x2048 : Shape := ⟨3, ![16, 512, 2048]⟩
abbrev S16x2048x2048 : Shape := ⟨3, ![16, 2048, 2048]⟩
abbrev S2048x2048 : Shape := ⟨2, ![2048, 2048]⟩
abbrev S2048x64 : Shape := ⟨2, ![2048, 64]⟩
abbrev S2048 : Shape := ⟨1, ![2048]⟩
abbrev S2048x1 : Shape := ⟨2, ![2048, 1]⟩
abbrev S2048x64x1 : Shape := ⟨3, ![2048, 64, 1]⟩
abbrev S2048x64x2 : Shape := ⟨3, ![2048, 64, 2]⟩

abbrev nBuf : Space → Nat
  | .hbm => 49
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S16x512, .f32⟩
  | .hbm, ⟨2, _⟩ => ⟨S16x1x512, .f32⟩
  | .hbm, ⟨3, _⟩ => ⟨S1x2048x512, .f32⟩
  | .hbm, ⟨4, _⟩ => ⟨S16x2048x512, .f32⟩
  | .hbm, ⟨5, _⟩ => ⟨S16x2048x512, .f32⟩
  | .hbm, ⟨6, _⟩ => ⟨S16x2048x512, .f32⟩
  | .hbm, ⟨7, _⟩ => ⟨S16x2048x512, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S16x2048x512, .f32⟩
  | .hbm, ⟨16, _⟩ => ⟨S16x2048x512, .f32⟩
  | .hbm, ⟨17, _⟩ => ⟨S16x512x2048, .f32⟩
  | .hbm, ⟨18, _⟩ => ⟨S16x2048x2048, .f32⟩
  | .hbm, ⟨19, _⟩ => ⟨S_, .f32⟩
  | .hbm, ⟨20, _⟩ => ⟨S2048x2048, .f32⟩
  | .hbm, ⟨21, _⟩ => ⟨S_, .f32⟩
  | .hbm, ⟨22, _⟩ => ⟨S2048x2048, .f32⟩
  | .hbm, ⟨23, _⟩ => ⟨S2048x2048, .f32⟩
  | .hbm, ⟨24, _⟩ => ⟨S2048x64, .f32⟩
  | .hbm, ⟨25, _⟩ => ⟨S2048x64, .i32⟩
  | .hbm, ⟨26, _⟩ => ⟨S2048, .i32⟩
  | .hbm, ⟨27, _⟩ => ⟨S2048x1, .i32⟩
  | .hbm, ⟨28, _⟩ => ⟨S_, .f32⟩
  | .hbm, ⟨29, _⟩ => ⟨S2048x2048, .f32⟩
  | .hbm, ⟨30, _⟩ => ⟨S_, .i32⟩
  | .hbm, ⟨31, _⟩ => ⟨S2048x1, .i32⟩
  | .hbm, ⟨32, _⟩ => ⟨S2048x1, .i1⟩
  | .hbm, ⟨33, _⟩ => ⟨S_, .i32⟩
  | .hbm, ⟨34, _⟩ => ⟨S2048x1, .i32⟩
  | .hbm, ⟨35, _⟩ => ⟨S2048x1, .i32⟩
  | .hbm, ⟨36, _⟩ => ⟨S2048x1, .i32⟩
  | .hbm, ⟨37, _⟩ => ⟨S_, .i32⟩
  | .hbm, ⟨38, _⟩ => ⟨S2048x64, .i32⟩
  | .hbm, ⟨39, _⟩ => ⟨S2048x64, .i1⟩
  | .hbm, ⟨40, _⟩ => ⟨S_, .i32⟩
  | .hbm, ⟨41, _⟩ => ⟨S2048x64, .i32⟩
  | .hbm, ⟨42, _⟩ => ⟨S2048x64, .i32⟩
  | .hbm, ⟨43, _⟩ => ⟨S2048x64, .i32⟩
  | .hbm, ⟨44, _⟩ => ⟨S2048x64, .i32⟩
  | .hbm, ⟨45, _⟩ => ⟨S2048x64x1, .i32⟩
  | .hbm, ⟨46, _⟩ => ⟨S2048x64x1, .i32⟩
  | .hbm, ⟨47, _⟩ => ⟨S2048x64x2, .i32⟩
  | .hbm, ⟨48, _⟩ => ⟨S2048x2048, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_values : Ref sig .tc := ⟨.hbm, 24, rfl⟩
abbrev main_indices : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_c : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_c_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Proof.Reads.lean ====
/-
  Reading a memref's contents through a unit-stride rectangle, at a rank-2 index.
-/
module

public import Idealize.ShloMosaic.Lib.WritesUnit
public import Idealize.ShloMosaic.Lib.PointwiseCore
public import Idealize.ShloMosaic.Lib.Exec

@[expose] public section

noncomputable section

namespace Cert.Reads

open Idealize.ShloMosaic

variable {sig : RefSig} {κ : Kind} {sp : Space} {e : EltTy} {Val : EltTy → Type}

/-- A load of the whole shape reads the contents. -/
theorem readAt_all {n0 n1 : ℕ} (v : View sig κ sp ⟨2, ![n0, n1]⟩ e) (f : v.ty.Contents Val)
    (inb : ∀ a, (![0, 0] : Fin 2 → ℕ) a + (⟨2, ![n0, n1]⟩ : Shape).size a ≤ (⟨2, ![n0, n1]⟩ : Shape).size a) :
    v.readAt Val (Rect.unit (s := ⟨2, ![n0, n1]⟩) ![0, 0] (⟨2, ![n0, n1]⟩ : Shape).size inb).toLoadRect f = v.read Val f := by
  funext x
  rw [View.readAt_apply]
  congr 1
  funext a
  refine Fin.ext ?_
  show (![0, 0] : Fin 2 → ℕ) a + 1 * (x a).val = (x a).val
  have : (![0, 0] : Fin 2 → ℕ) a = 0 := by fin_cases a <;> rfl
  rw [this]; omega

/-- A load of a block reads the contents at the block's place. -/
theorem readAt_blk {n0 n1 : ℕ} (v : View sig κ sp ⟨2, ![n0, n1]⟩ e) (f : v.ty.Contents Val) {off size : Fin 2 → ℕ}
    (inb : ∀ a, off a + size a ≤ (⟨2, ![n0, n1]⟩ : Shape).size a) (x : (⟨2, size⟩ : Shape).Idx) (p : Fin n0) (q : Fin n1)
    (hp : p.val = off 0 + (x 0).val) (hq : q.val = off 1 + (x 1).val) :
    v.readAt Val (Rect.unit (s := ⟨2, ![n0, n1]⟩) off size inb).toLoadRect f x = v.read Val f (ix2 p q) := by
  rw [View.readAt_apply]
  congr 1
  funext a
  refine Fin.ext ?_
  show off a + 1 * (x a).val = (ix2 p q a).val
  match a with
  | ⟨0, _⟩ => rw [Nat.one_mul]; exact hp.symm
  | ⟨1, _⟩ => rw [Nat.one_mul]; exact hq.symm

/-- A store of the whole shape is what is read afterwards. -/
theorem read_writes_all {n0 n1 : ℕ} (v : View sig κ sp ⟨2, ![n0, n1]⟩ e) (f : v.ty.Contents Val)
    (inb : ∀ a, (![0, 0] : Fin 2 → ℕ) a + (⟨2, ![n0, n1]⟩ : Shape).size a ≤ (⟨2, ![n0, n1]⟩ : Shape).size a)
    (w : (⟨2, ![n0, n1]⟩ : Shape).Idx → Val e) (L : List (View.Piece Val ⟨2, ![n0, n1]⟩ e)) :
    v.read Val (v.writes Val f (⟨Rect.unit (s := ⟨2, ![n0, n1]⟩) ![0, 0] (⟨2, ![n0, n1]⟩ : Shape).size inb, w⟩ :: L)) = w := by
  funext y
  refine View.read_writes_cons_unit_of_mem v f inb w L y y rfl fun a => ?_
  have : (![0, 0] : Fin 2 → ℕ) a = 0 := by fin_cases a <;> rfl
  rw [this]; omega

end Cert.Reads

end
-- ==== Proof.Region0.lean ====
/-
  The first kernel's region: its proof data and the run of its body.  Every point reads one block of 512 rows of the
  context and the whole weight matrix, and writes the 512×16 block of reciprocal norms.
-/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.Frame
public import Idealize.ShloMosaic.Lib.Tactic
public import Idealize.ShloMosaic.Lib.Pipeline.Regions
public import proofs.«01_k».proof.Proof.Reads

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ)

/-- The context block that point `t` of the first region stages. -/
abbrev ctxBlk (c : Dev nD) (t : Fin cfg0.N) : (cfg0.win 0).block.Idx → Elt F (cfg0.win 0).elt :=
  ((cfg0.win 0).blk t).view.read (Elt F) (m ((cfg0.win 0).arr.view.loc (c : Thread nD τ)))

/-- The weights that the first region stages. -/
abbrev wBlk (c : Dev nD) (t : Fin cfg0.N) : (cfg0.win 1).block.Idx → Elt F (cfg0.win 1).elt :=
  ((cfg0.win 1).blk t).view.read (Elt F) (m ((cfg0.win 1).arr.view.loc (c : Thread nD τ)))

/-- The proof data of the first region: after the body the two inputs are as fetched and the output block is the
    reciprocal norms of the staged rows. -/
def dat0 (c : Dev nD) : Dat τ (Elt F) Unit ℕ (UR sig nD τ) ℕ cfg0 c where
  A w := V0 m c (Pipeline.arrRef spec0 w)
  after w t := match w with
    | ⟨0, _⟩ => ctxBlk m c t
    | ⟨1, _⟩ => wBlk m c t
    | ⟨2, _⟩ => k0_pay1 (ctxBlk m c t) (wBlk m c t)
  Φ _ := Pipeline.scopedRest (Ix := Unit) (Name := ℕ) (U := UR sig nD τ) (Lvl := ℕ) (Val := Elt F) spec0 c
  q _ := fullShare
  owed _ := 0

/-- The body's run: the output staging buffer ends at the reciprocal norms of the two inputs. -/
theorem body0 (c : Dev nD) (i : grid0.Coords) (M1 : Memref sig .tc .vmem S512x512 .f32) (h1 : M1.IsWhole)
    (M2 : Memref sig .tc .vmem S16x512 .f32) (h2 : M2.IsWhole) (M3 : Memref sig .tc .vmem S512x16 .f32) (h3 : M3.IsWhole)
    (d1 : S512x512.Idx → Elt F .f32) (d2 : S16x512.Idx → Elt F .f32) (d3 : S512x16.Idx → Elt F .f32) (Q : PUnit → sProp 𝕄) :
    iprop(owns (c : Thread nD τ) M1 fullShare d1 ∗ owns (c : Thread nD τ) M2 fullShare d2 ∗ owns (c : Thread nD τ) M3 fullShare d3
      ∗ (iprop(owns (c : Thread nD τ) M1 fullShare d1 ∗ owns (c : Thread nD τ) M2 fullShare d2 ∗ owns (c : Thread nD τ) M3 fullShare (k0_pay1 d1 d2)) -∗ Q ⟨⟩))
    ⊢ wp frame (wpE (defs₀ (F := F)) Variants.none c none) Set.univ (cc0__norms_body i M1 h1 M2 h2 M3 h3) Q := by
  rw [cc0__norms_body_eq_skeleton]; unfold cc0__norms_body_skel
  unfold owns
  iintro ⟨⟨%f1, %e1, H1⟩, ⟨%f2, %e2, H2⟩, ⟨%f3, %e3, H3⟩, Hk⟩
  sl_exec
  sl_step
  iapply Hk
  isplitl [H1]; · iexists f1; isplitr; · ipureintro; exact e1
                  iexact H1
  isplitl [H2]; · iexists f2; isplitr; · ipureintro; exact e2
                  iexact H2
  iexists _; isplitr; swap; · iexact H3
  ipureintro
  rw [Cert.Reads.read_writes_all, Cert.Reads.readAt_all, Cert.Reads.readAt_all, e1, e2]

/-- The context window holds its block when the body runs. -/
theorem before0_0 (c : Dev nD) (t : Fin cfg0.N) (d) : (dat0 m c).before 0 t d = ctxBlk m c t := by
  unfold Dat.before; rw [if_pos (fetch0_0 t)]; rfl

/-- The weight window holds the weights when the body runs. -/
theorem before0_1 (c : Dev nD) (t : Fin cfg0.N) (d) : (dat0 m c).before 1 t d = wBlk m c t := by
  rw [Dat.before_in_eq_fetched (dat0 m c) 1 rfl (fun _ => rfl) (fun _ _ _ => rfl) (fun _ => rfl) t d]; rfl

/-- The body of the first region as the pipeline calls it. -/
theorem row0 (t : Fin cfg0.N) : defs₀ (F := F) .tc cfg0.body (cfg0.bodyArgs t (cfg0.slots t)) = bodyAt0 t := by
  unfold defs₀; rw [Defs.onTc_tc]

/-- The body's triple at a point, over the staging buffers. -/
theorem sound0 (c : Dev nD) (t : Fin cfg0.N) :
    iprop((dat0 m c).Φ t.castSucc ∗ (dat0 m c).owesAt () t.castSucc
      ∗ (∃ d, owns c.tc ((cfg0.win 0).stage (cfg0.slots t 0)) fullShare ((dat0 m c).before 0 t d))
      ∗ (∃ d, owns c.tc ((cfg0.win 1).stage (cfg0.slots t 1)) fullShare ((dat0 m c).before 1 t d))
      ∗ (∃ d, owns c.tc ((cfg0.win 2).stage (cfg0.slots t 2)) fullShare ((dat0 m c).before 2 t d)))
    ⊢ wp frame (wpE (defs₀ (F := F)) Variants.none c.tc none) Set.univ (bodyAt0 t) (fun _ =>
      iprop((dat0 m c).Φ t.succ ∗ (dat0 m c).owesAt () t.succ
      ∗ owns c.tc ((cfg0.win 0).stage (cfg0.slots t 0)) fullShare ((dat0 m c).after 0 t)
      ∗ owns c.tc ((cfg0.win 1).stage (cfg0.slots t 1)) fullShare ((dat0 m c).after 1 t)
      ∗ owns c.tc ((cfg0.win 2).stage (cfg0.slots t 2)) fullShare ((dat0 m c).after 2 t))) := by
  iintro ⟨HΦ, HO, ⟨%d0, H0⟩, ⟨%d1, H1⟩, ⟨%d2, H2⟩⟩
  rw [before0_0, before0_1, show (dat0 m c).Φ t.succ = (dat0 m c).Φ t.castSucc from rfl,
    show (dat0 m c).owesAt () t.succ = (dat0 m c).owesAt () t.castSucc from rfl]
  iapply (body0 c (grid0.coords t) _ _ _ _ _ _ (ctxBlk m c t) (wBlk m c t) ((dat0 m c).before 2 t d2) _)
  isplitl [H0]; · iexact H0
  isplitl [H1]; · iexact H1
  isplitl [H2]; · iexact H2
  iintro ⟨H0, H1, H2⟩
  isplitl [HΦ]; · iexact HΦ
  isplitl [HO]; · iexact HO
  isplitl [H0]; · iexact H0
  isplitl [H1]; · iexact H1
  iexact H2

/-- The body's obligation at every point. -/
theorem oblig0 (c : Dev nD) : BodyObligation (dat0 m c) (defs₀ (F := F)) Variants.none () Set.univ := fun t => by
  rw [bigSep_W0, bigSep_W0, row0]
  exact triple_restated (sound0 m c t) rfl .rfl fun _ => .rfl

end Cert.KernelIdeal.Hand
-- ==== Proof.Step.lean ====
/-
  What one grid point of the second kernel does to the contents it holds, as plain functions: strips of scaled rows, column
  blocks of the output strip, blocks of the saved triangle, and the threshold search that masks a full strip.
-/
module

public import proofs.«01_k».proof.Proof.Gen.KernelIdeal.Skeleton
public import proofs.«01_k».proof.Proof.Gen.KernelIdeal
public import Idealize.ShloMosaic.Lib.PointwiseCore

@[expose] public section

noncomputable section

namespace Cert.KernelIdeal.Hand

open Cert.KernelIdeal Cert.KernelIdeal.Gen
open Idealize.ShloMosaic

variable {F : FTy → Type} [FloatOps F] {α : Type}

/-- The strip of scaled rows: entry `(r, 512 p + d)` is `context[r,d] · W[p,d] · inv[r,p]`. -/
def vrow (W : S16x512.Idx → Elt F .f32) (C : S512x512.Idx → Elt F .f32) (I : S512x16.Idx → Elt F .f32) :
    S512x8192.Idx → Elt F .f32 := fun y =>
  FloatOps.mulf (φ := .f32) (FloatOps.mulf (φ := .f32) (C (ix2 (y 0) ⟨(y 1).val % 512, Nat.mod_lt _ (by decide)⟩))
    (W (ix2 ⟨(y 1).val / 512, Nat.div_lt_of_lt_mul (y 1).isLt⟩ ⟨(y 1).val % 512, Nat.mod_lt _ (by decide)⟩)))
    (I (ix2 (y 0) ⟨(y 1).val / 512, Nat.div_lt_of_lt_mul (y 1).isLt⟩))

/-- Rows `512 k … 512 k + 511` of an array of 2048 rows. -/
def rows {n : ℕ} (k : Fin 4) (X : (⟨2, ![2048, n]⟩ : Shape).Idx → α) : (⟨2, ![512, n]⟩ : Shape).Idx → α := fun y =>
  X (ix2 ⟨512 * k.val + (y 0).val, by have := k.isLt; have : (y 0).val < 512 := (y 0).isLt; omega⟩ (y 1))

/-- Columns `512 k … 512 k + 511` of a strip of 2048 columns. -/
def cols (k : Fin 4) (X : S512x2048.Idx → α) : S512x512.Idx → α := fun y =>
  X (ix2 (y 0) ⟨512 * k.val + (y 1).val, by have := k.isLt; have : (y 1).val < 512 := (y 1).isLt; omega⟩)

/-- A strip with column block `j` replaced. -/
def putCols (j : ℕ) (P : S512x512.Idx → α) (X : S512x2048.Idx → α) : S512x2048.Idx → α := fun y =>
  if (y 1).val / 512 = j then P (ix2 (y 0) ⟨(y 1).val % 512, Nat.mod_lt _ (by decide)⟩) else X y

/-- The saved triangle with block `(a, b)` replaced. -/
def putBlk (a b : ℕ) (P : S512x512.Idx → α) (X : S1536x1536.Idx → α) : S1536x1536.Idx → α := fun y =>
  if (y 0).val / 512 = a ∧ (y 1).val / 512 = b then
    P (ix2 ⟨(y 0).val % 512, Nat.mod_lt _ (by decide)⟩ ⟨(y 1).val % 512, Nat.mod_lt _ (by decide)⟩) else X y

/-- Block `(a, b)` of the saved triangle. -/
def getBlk (a b : ℕ) (X : S1536x1536.Idx → α) : S512x512.Idx → α := fun y =>
  X (ix2 ⟨(512 * a + (y 0).val) % 1536, Nat.mod_lt _ (by decide)⟩ ⟨(512 * b + (y 1).val) % 1536, Nat.mod_lt _ (by decide)⟩)

/-- One halving of the threshold search over a strip: the two bounds of every row after comparing the middle key's count
    with 64. -/
def searchStep (X : S512x2048.Idx → Elt F .f32) (p : IVec S512x1 32 × IVec S512x1 32) : IVec S512x1 32 × IVec S512x1 32 :=
  (k1_pay55 p.1 (k1_pay48 p.1 p.2) (k1_pay50 p.1 p.2 (cols 0 X) (cols 1 X) (cols 2 X)) (k1_pay51 p.1 p.2 (cols 3 X)),
   k1_pay56 p.2 (k1_pay48 p.1 p.2) (k1_pay50 p.1 p.2 (cols 0 X) (cols 1 X) (cols 2 X)) (k1_pay51 p.1 p.2 (cols 3 X)))

/-- The lower bounds after 31 halvings. -/
def searchLo (X : S512x2048.Idx → Elt F .f32) : IVec S512x1 32 := ((searchStep X)^[31] (k1_pay52, k1_pay53)).1

/-- A strip with everything not above the searched threshold of its row replaced by zero. -/
def maskRows (X : S512x2048.Idx → Elt F .f32) : S512x2048.Idx → Elt F .f32 := fun y =>
  k1_pay58 (searchLo X) (cols ⟨(y 1).val / 512, Nat.div_lt_of_lt_mul (y 1).isLt⟩ X)
    (ix2 (y 0) ⟨(y 1).val % 512, Nat.mod_lt _ (by decide)⟩)

/-! ### The conditions and offsets of the body, in closed form -/

theorem cond1_iff : ∀ i : grid1.Coords, k1_cond1 i = 1#1 ↔ (i 1).val = 0 := by decide +kernel
theorem cond2_iff : ∀ i : grid1.Coords, k1_cond2 i = 1#1 ↔ (i 0).val ≤ (i 1).val := by decide +kernel
theorem cond3_iff : ∀ i : grid1.Coords, k1_cond3 i = 1#1 ↔ (i 0).val < (i 1).val := by decide +kernel
theorem cond4_iff : ∀ i : grid1.Coords, k1_cond4 i = 1#1 ↔ (i 1).val < (i 0).val := by decide +kernel
theorem cond5_iff : ∀ i : grid1.Coords, k1_cond5 i = 1#1 ↔ (i 1).val = 3 := by decide +kernel
theorem off6_eq : ∀ i : grid1.Coords, (i 0).val < (i 1).val → k1_off6 i = ![512 * ((i 1).val - 1), 512 * (i 0).val] := by
  decide +kernel
theorem off7_eq : ∀ i : grid1.Coords, (i 1).val < (i 0).val → k1_off7 i = ![512 * ((i 0).val - 1), 512 * (i 1).val] := by
  decide +kernel

end Cert.KernelIdeal.Hand

end
-- ==== Proof.Body1.lean ====
/-
  The second kernel's body, run part by part: each part's triple states what it leaves in the buffers it touches.
-/
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.Frame
public import Idealize.ShloMosaic.Lib.Tactic
public import Idealize.ShloMosaic.Lib.Pipeline.Regions
public import proofs.«01_k».proof.Proof.Reads
public import proofs.«01_k».proof.Proof.Step

@[expose] public section

set_option maxRecDepth 65536

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (i : grid1.Coords)
  (arg2 : Memref sig .tc .vmem S2048x512 .f32) (harg2 : arg2.IsWhole) (arg3 : Memref sig .tc .vmem S16x512 .f32) (harg3 : arg3.IsWhole)
  (arg4 : Memref sig .tc .vmem S2048x16 .f32) (harg4 : arg4.IsWhole) (arg5 : Memref sig .tc .vmem S512x2048 .f32) (harg5 : arg5.IsWhole)
  (arg6 : Memref sig .tc .vmem S512x8192 .f32) (harg6 : arg6.IsWhole) (arg7 : Memref sig .tc .vmem S512x8192 .f32) (harg7 : arg7.IsWhole)
  (arg8 : Memref sig .tc .vmem S1536x1536 .f32) (harg8 : arg8.IsWhole)

/-- The part of the body for: first window strip is filled when the second coordinate is zero. -/
noncomputable def seg1 (v0 : Vec F S16x512 .f32) : Prog (TpuEff nD τ sig (Elt F) Λ₀ .tc) PUnit :=
  if k1_h1 : k1_cond1 i = 1#1 then do
    let ⟨v15, v19, v59⟩ : Σ' (v15 : Vec F S512x512 .f32) (v19 : FVec F S512x16 .f32), FVec F S1x512 .f32 ← k1_part1 i arg2 harg2 arg3 harg3 arg4 harg4 arg5 harg5 arg6 harg6 arg7 harg7 arg8 harg8 (BitVec.ofNat 32 (i 0).val) v0 k1_h1
    let ⟨v107, v108⟩ : Σ' (v107 : FVec F S512x512 .f32), Vec F S512x512 .f32 ← k1_part2 i arg2 harg2 arg3 harg3 arg4 harg4 arg5 harg5 arg6 harg6 arg7 harg7 arg8 harg8 v0 v15 v19 v59
    let ⟨v154, v158⟩ : Σ' (v154 : FVec F S512x512 .f32), FVec F S512x512 .f32 ← k1_part3 i arg2 harg2 arg3 harg3 arg4 harg4 arg5 harg5 arg6 harg6 arg7 harg7 arg8 harg8 v0 v15 v19 v107 v108
    let v206 : FVec F S512x512 .f32 ← k1_part4 i arg2 harg2 arg3 harg3 arg4 harg4 arg5 harg5 arg6 harg6 arg7 harg7 arg8 harg8 v0 v15 v19 v154 v158
    let v212 : Vec F S512x512 .f32 ← Prog.lift (.load arg6 (Rect.unit (s := S512x8192) ![0, 7168] S512x512.size inb_S512x8192_S512x512_0_7168).toLoadRect (View.loadsAt_vmem h_S512x512))
    Prog.lift (.store arg6 (Rect.unit (s := S512x8192) ![0, 7168] S512x512.size inb_S512x8192_S512x512_0_7168) (k1_pay1 v19 v206) Finset.univ (View.stores_vmem_bits_univ h_S512x512 rfl) (.inl rfl))
    let v225 : Vec F S512x512 .f32 ← Prog.lift (.load arg6 (Rect.unit (s := S512x8192) ![0, 7680] S512x512.size inb_S512x8192_S512x512_0_7680).toLoadRect (View.loadsAt_vmem h_S512x512))
    Prog.lift (.store arg6 (Rect.unit (s := S512x8192) ![0, 7680] S512x512.size inb_S512x8192_S512x512_0_7680) (k1_pay2 v0 v15 v19) Finset.univ (View.stores_vmem_bits_univ h_S512x512 rfl) (.inl rfl))
    pure ⟨⟩
  else do
    pure ⟨⟩

/-- The part of the body for: upper triangle: the second strip is filled, the block is multiplied out and its transpose is kept. -/
noncomputable def seg2 (v0 : Vec F S16x512 .f32) : Prog (TpuEff nD τ sig (Elt F) Λ₀ .tc) PUnit :=
  if k1_h2 : k1_cond2 i = 1#1 then do
    let ⟨v15, v19, v59⟩ : Σ' (v15 : Vec F S512x512 .f32) (v19 : FVec F S512x16 .f32), FVec F S1x512 .f32 ← k1_part5 i arg2 harg2 arg3 harg3 arg4 harg4 arg5 harg5 arg6 harg6 arg7 harg7 arg8 harg8 (BitVec.ofNat 32 (i 1).val) v0 k1_h2
    let ⟨v107, v108⟩ : Σ' (v107 : FVec F S512x512 .f32), Vec F S512x512 .f32 ← k1_part6 i arg2 harg2 arg3 harg3 arg4 harg4 arg5 harg5 arg6 harg6 arg7 harg7 arg8 harg8 v0 v15 v19 v59
    let ⟨v154, v158⟩ : Σ' (v154 : FVec F S512x512 .f32), FVec F S512x512 .f32 ← k1_part7 i arg2 harg2 arg3 harg3 arg4 harg4 arg5 harg5 arg6 harg6 arg7 harg7 arg8 harg8 v0 v15 v19 v107 v108
    let v206 : FVec F S512x512 .f32 ← k1_part8 i arg2 harg2 arg3 harg3 arg4 harg4 arg5 harg5 arg6 harg6 arg7 harg7 arg8 harg8 v0 v15 v19 v154 v158
    let v212 : Vec F S512x512 .f32 ← Prog.lift (.load arg7 (Rect.unit (s := S512x8192) ![0, 7168] S512x512.size inb_S512x8192_S512x512_0_7168).toLoadRect (View.loadsAt_vmem h_S512x512))
    Prog.lift (.store arg7 (Rect.unit (s := S512x8192) ![0, 7168] S512x512.size inb_S512x8192_S512x512_0_7168) (k1_pay3 v19 v206) Finset.univ (View.stores_vmem_bits_univ h_S512x512 rfl) (.inl rfl))
    let v225 : Vec F S512x512 .f32 ← Prog.lift (.load arg7 (Rect.unit (s := S512x8192) ![0, 7680] S512x512.size inb_S512x8192_S512x512_0_7680).toLoadRect (View.loadsAt_vmem h_S512x512))
    Prog.lift (.store arg7 (Rect.unit (s := S512x8192) ![0, 7680] S512x512.size inb_S512x8192_S512x512_0_7680) (k1_pay4 v0 v15 v19) Finset.univ (View.stores_vmem_bits_univ h_S512x512 rfl) (.inl rfl))
    let v228 : Vec F S512x8192 .f32 ← Prog.lift (.load arg6 (Rect.unit (s := S512x8192) ![0, 0] S512x8192.size inb_S512x8192_S512x8192_0_0).toLoadRect (View.loadsAt_vmem h_S512x8192))
    let v229 : Vec F S512x8192 .f32 ← Prog.lift (.load arg7 (Rect.unit (s := S512x8192) ![0, 0] S512x8192.size inb_S512x8192_S512x8192_0_0).toLoadRect (View.loadsAt_vmem h_S512x8192))
    let v235 : Vec F S512x512 .f32 ← Prog.lift (.load arg5 (Rect.unit (s := S512x2048) (k1_off5 i) S512x512.size (k1_off5_inb i k1_h2)).toLoadRect (View.loadsAt_vmem h_S512x512))
    Prog.lift (.store arg5 (Rect.unit (s := S512x2048) (k1_off5 i) S512x512.size (k1_off5_inb i k1_h2)) (k1_pay5 v228 v229) Finset.univ (View.stores_vmem_bits_univ h_S512x512 rfl) (.inl rfl))
    if k1_h3 : k1_cond3 i = 1#1 then do
      let v246 : Vec F S512x512 .f32 ← Prog.lift (.load arg8 (Rect.unit (s := S1536x1536) (k1_off6 i) S512x512.size (k1_off6_inb i k1_h2 k1_h3)).toLoadRect (View.loadsAt_vmem h_S512x512))
      Prog.lift (.store arg8 (Rect.unit (s := S1536x1536) (k1_off6 i) S512x512.size (k1_off6_inb i k1_h2 k1_h3)) (k1_pay6 v228 v229) Finset.univ (View.stores_vmem_bits_univ h_S512x512 rfl) (.inl rfl))
      pure ⟨⟩
    else do
      pure ⟨⟩
    pure ⟨⟩
  else do
    pure ⟨⟩

/-- The part of the body for: lower triangle: the block kept earlier is copied out. -/
noncomputable def seg4 : Prog (TpuEff nD τ sig (Elt F) Λ₀ .tc) PUnit :=
  if k1_h4 : k1_cond4 i = 1#1 then do
    let v18 : Vec F S512x512 .f32 ← Prog.lift (.load arg8 (Rect.unit (s := S1536x1536) (k1_off7 i) S512x512.size (k1_off7_inb i k1_h4)).toLoadRect (View.loadsAt_vmem h_S512x512))
    let v21 : Vec F S512x512 .f32 ← Prog.lift (.load arg5 (Rect.unit (s := S512x2048) (k1_off8 i) S512x512.size (k1_off8_inb i k1_h4)).toLoadRect (View.loadsAt_vmem h_S512x512))
    Prog.lift (.store arg5 (Rect.unit (s := S512x2048) (k1_off8 i) S512x512.size (k1_off8_inb i k1_h4)) v18 Finset.univ (View.stores_vmem_bits_univ h_S512x512 rfl) (.inl rfl))
    pure ⟨⟩
  else do
    pure ⟨⟩

/-- The part of the body for: last column: the strip is masked by the searched threshold. -/
noncomputable def seg5 : Prog (TpuEff nD τ sig (Elt F) Λ₀ .tc) PUnit :=
  if k1_h5 : k1_cond5 i = 1#1 then do
    let ⟨v22, v45⟩ : Σ' (v22 : FVec F S512x1 .f32), FVec F S512x512 .f32 ← k1_part10 i arg2 harg2 arg3 harg3 arg4 harg4 arg5 harg5 arg6 harg6 arg7 harg7 arg8 harg8 k1_h5
    let v50 : Vec F S512x512 .f32 ← Prog.lift (.load arg5 (Rect.unit (s := S512x2048) ![0, 1536] S512x512.size inb_S512x2048_S512x512_0_1536).toLoadRect (View.loadsAt_vmem h_S512x512))
    Prog.lift (.store arg5 (Rect.unit (s := S512x2048) ![0, 1536] S512x512.size inb_S512x2048_S512x512_0_1536) (k1_pay7 v22 v45) Finset.univ (View.stores_vmem_bits_univ h_S512x512 rfl) (.inl rfl))
    pure ⟨⟩
  else do
    pure ⟨⟩

/-- The body's first load: the weights. -/
noncomputable def seg0 : Prog (TpuEff nD τ sig (Elt F) Λ₀ .tc) (Vec F S16x512 .f32) := do
  let v0 : Vec F S16x512 .f32 ← Prog.lift (.load arg3 (Rect.unit (s := S16x512) ![0, 0] S16x512.size inb_S16x512_S16x512_0_0).toLoadRect (View.loadsAt_vmem h_S16x512))
  pure v0

/-- The body is its first load followed by the four parts. -/
theorem body_parts : cc1__body (F := F) i arg2 harg2 arg3 harg3 arg4 harg4 arg5 harg5 arg6 harg6 arg7 harg7 arg8 harg8 = (do
    let v0 : Vec F S16x512 .f32 ← seg0 (F := F) arg3
    seg1 (F := F) i arg2 harg2 arg3 harg3 arg4 harg4 arg5 harg5 arg6 harg6 arg7 harg7 arg8 harg8 v0
    seg2 (F := F) i arg2 harg2 arg3 harg3 arg4 harg4 arg5 harg5 arg6 harg6 arg7 harg7 arg8 harg8 v0
    seg4 (F := F) i arg5 arg8
    seg5 (F := F) i arg2 harg2 arg3 harg3 arg4 harg4 arg5 harg5 arg6 harg6 arg7 harg7 arg8 harg8) := by
  rw [cc1__body_eq_skeleton]; unfold cc1__body_skel seg0 seg1 seg2 seg4 seg5
  dsimp only
  refine congrArg _ (funext fun v0 => ?_)
  by_cases h1 : k1_cond1 i = 1#1 <;> by_cases h2 : k1_cond2 i = 1#1 <;> by_cases h3 : k1_cond3 i = 1#1 <;>
  by_cases h4 : k1_cond4 i = 1#1 <;> by_cases h5 : k1_cond5 i = 1#1 <;>
  simp only [h1, h2, h3, h4, h5, dif_pos, dif_neg, not_false_eq_true, bind_assoc, pure_bind] <;> rfl

/-- The strip at a place of column block `p`. -/
theorem vrow_at (W : S16x512.Idx → Elt F .f32) (C : S512x512.Idx → Elt F .f32) (I : S512x16.Idx → Elt F .f32)
    (y : S512x8192.Idx) (p : Fin 16) (r d : Fin 512) (h0 : (y 0).val = r.val) (h1 : (y 1).val = 512 * p.val + d.val) :
    vrow W C I y = FloatOps.mulf (φ := .f32) (FloatOps.mulf (φ := .f32) (C (ix2 r d)) (W (ix2 p d))) (I (ix2 r p)) := by
  have e0 : y 0 = r := Fin.ext h0
  have hd := d.isLt
  have e1 : (⟨(y 1).val / 512, Nat.div_lt_of_lt_mul (y 1).isLt⟩ : Fin 16) = p := Fin.ext (by show (y 1).val / 512 = p.val; omega)
  have e2 : (⟨(y 1).val % 512, Nat.mod_lt _ (by decide)⟩ : Fin 512) = d := Fin.ext (by show (y 1).val % 512 = d.val; omega)
  unfold vrow
  rw [e0, e1, e2]

/-- A stored block whose entries are those of column block `p` of the strip is the strip on its rectangle. -/
theorem piece_ok (W : S16x512.Idx → Elt F .f32) (C : S512x512.Idx → Elt F .f32) (I : S512x16.Idx → Elt F .f32) (p : Fin 16)
    {off : Fin 2 → ℕ} (hoff : off = ![0, 512 * p.val]) (inb : ∀ a, off a + S512x512.size a ≤ S512x8192.size a)
    (P : S512x512.Idx → Elt F .f32)
    (h : ∀ r d : Fin 512, P (ix2 r d)
      = FloatOps.mulf (φ := .f32) (FloatOps.mulf (φ := .f32) (C (ix2 r d)) (W (ix2 p d))) (I (ix2 r p))) (x : S512x512.Idx) :
    P x = vrow W C I ((Rect.unit (s := S512x8192) off S512x512.size inb).emb x) := by
  subst hoff
  rw [vrow_at W C I _ p (x 0) (x 1) (by show 0 + 1 * (x 0).val = _; omega)
    (by show 512 * p.val + 1 * (x 1).val = _; omega)]
  exact (congrArg P (eq_ix2 x)).trans (h (x 0) (x 1))

/-- A load of 512 rows of a context-shaped buffer is the rows of its contents. -/
theorem load_rows {n : ℕ} (v : View sig .tc .vmem ⟨2, ![2048, n]⟩ .f32) (f : v.ty.Contents (Elt F)) (k : Fin 4) {off : Fin 2 → ℕ}
    (hoff : off = ![512 * k.val, 0]) (inb : ∀ a, off a + (⟨2, ![512, n]⟩ : Shape).size a ≤ (⟨2, ![2048, n]⟩ : Shape).size a) :
    v.readAt (Elt F) (Rect.unit (s := ⟨2, ![2048, n]⟩) off (⟨2, ![512, n]⟩ : Shape).size inb).toLoadRect f = rows k (v.read (Elt F) f) := by
  subst hoff
  funext x
  refine Cert.Reads.readAt_blk v f inb x _ _ rfl ?_
  show (x 1).val = 0 + (x 1).val
  omega

/-- What a strip reads after its sixteen column blocks were stored, if each stored block is the strip's. -/
theorem read_strip (v : View sig .tc .vmem S512x8192 .f32) (f : v.ty.Contents (Elt F)) (G : S512x8192.Idx → Elt F .f32)
    (L : List (View.Piece (Elt F) S512x8192 .f32)) (hG : ∀ p ∈ L, ∀ x : p.1.shape.Idx, p.2 x = G (p.1.emb x))
    (hc : View.Piece.tiled L S512x512.size = true) : v.read (Elt F) (v.writes (Elt F) f L) = G :=
  funext fun y => View.read_writes_apply_of_pieces v f G L hG y (View.cover_of_tiled L S512x512.size hc y)

/-- The first part: at the strip's first point the row strip is filled from the context rows of the strip. -/
theorem seg1_run (c : Dev nD) (X3 : S16x512.Idx → Elt F .f32) (X2 : S2048x512.Idx → Elt F .f32) (X4 : S2048x16.Idx → Elt F .f32)
    (X6 : S512x8192.Idx → Elt F .f32) (Q : PUnit → sProp 𝕄) :
    iprop(owns (c : Thread nD τ) arg2 fullShare X2 ∗ owns (c : Thread nD τ) arg4 fullShare X4 ∗ owns (c : Thread nD τ) arg6 fullShare X6
      ∗ (iprop(owns (c : Thread nD τ) arg2 fullShare X2 ∗ owns (c : Thread nD τ) arg4 fullShare X4
        ∗ owns (c : Thread nD τ) arg6 fullShare (if (i 1).val = 0 then vrow X3 (rows (i 0) X2) (rows (i 0) X4) else X6)) -∗ Q ⟨⟩))
    ⊢ wp frame (wpE (defs₀ (F := F)) Variants.none c none) Set.univ
      (seg1 i arg2 harg2 arg3 harg3 arg4 harg4 arg5 harg5 arg6 harg6 arg7 harg7 arg8 harg8 X3) Q := by
  unfold owns
  by_cases hC : k1_cond1 i = 1#1
  · rw [if_pos ((cond1_iff i).mp hC)]
    unfold seg1
    rw [dif_pos hC]
    iintro ⟨⟨%f2, %e2, H2⟩, ⟨%f4, %e4, H4⟩, ⟨%f6, %e6, H6⟩, Hk⟩
    sl_exec
    sl_step
    iapply Hk
    isplitl [H2]; · iexists f2; isplitr; · ipureintro; exact e2
                    iexact H2
    isplitl [H4]; · iexists f4; isplitr; · ipureintro; exact e4
                    iexact H4
    iexists _; isplitr; swap; · iexact H6
    ipureintro
    unfold seg1_run.sl.r_5 seg1_run.sl.r_4 seg1_run.sl.r_3 seg1_run.sl.r_2 seg1_run.sl.r_1 seg1_run.sl.r
    rw [load_rows _ _ (i 0) (k1_off1_eq i), load_rows _ _ (i 0) (k1_off2_eq i), e2, e4]
    refine read_strip _ _ _ _ ?_ rfl
    simp only [List.forall_mem_cons, List.not_mem_nil, false_implies, implies_true, and_true]
    refine ⟨piece_ok _ _ _ 15 rfl _ _ ?_, piece_ok _ _ _ 14 rfl _ _ ?_, piece_ok _ _ _ 13 rfl _ _ ?_, piece_ok _ _ _ 12 rfl _ _ ?_, piece_ok _ _ _ 11 rfl _ _ ?_, piece_ok _ _ _ 10 rfl _ _ ?_, piece_ok _ _ _ 9 rfl _ _ ?_, piece_ok _ _ _ 8 rfl _ _ ?_, piece_ok _ _ _ 7 rfl _ _ ?_, piece_ok _ _ _ 6 rfl _ _ ?_, piece_ok _ _ _ 5 rfl _ _ ?_, piece_ok _ _ _ 4 rfl _ _ ?_, piece_ok _ _ _ 3 rfl _ _ ?_, piece_ok _ _ _ 2 rfl _ _ ?_, piece_ok _ _ _ 1 rfl _ _ ?_, piece_ok _ _ _ 0 rfl _ _ ?_⟩ <;> intro r d
    · pointwise [k1_pay2, k1_pay8]
    · pointwise [k1_pay1, k1_pay27, k1_pay8]
    · pointwise [k1_pay26, k1_pay8]
    · pointwise [k1_pay25, k1_pay8]
    · pointwise [k1_pay24, k1_pay8]
    · pointwise [k1_pay23, k1_pay21, k1_pay22, k1_pay8]
    · pointwise [k1_pay20, k1_pay8]
    · pointwise [k1_pay19, k1_pay8]
    · pointwise [k1_pay18, k1_pay8]
    · pointwise [k1_pay17, k1_pay16, k1_pay8]
    · pointwise [k1_pay15, k1_pay8]
    · pointwise [k1_pay14, k1_pay8]
    · pointwise [k1_pay13, k1_pay12, k1_pay8]
    · pointwise [k1_pay11, k1_pay8]
    · pointwise [k1_pay10, k1_pay8]
    · pointwise [k1_pay9, k1_pay8]
  · rw [if_neg (fun h => hC ((cond1_iff i).mpr h))]
    unfold seg1
    rw [dif_neg hC]
    iintro ⟨H2, H4, H6, Hk⟩
    sl_step
    iapply Hk
    isplitl [H2]; · iexact H2
    isplitl [H4]; · iexact H4
    iexact H6

/-- A strip after one column block was stored. -/
theorem read_putCols (v : View sig .tc .vmem S512x2048 .f32) (f : v.ty.Contents (Elt F)) (j : ℕ) {off : Fin 2 → ℕ}
    (hoff : off = ![0, 512 * j]) (inb : ∀ a, off a + S512x512.size a ≤ S512x2048.size a) (P : S512x512.Idx → Elt F .f32) :
    v.read (Elt F) (v.writes (Elt F) f [⟨Rect.unit (s := S512x2048) off S512x512.size inb, P⟩]) = putCols j P (v.read (Elt F) f) := by
  subst hoff
  funext y
  unfold putCols
  have h0 : (y 0).val < 512 := (y 0).isLt
  have h1 : (y 1).val < 2048 := (y 1).isLt
  by_cases hj : (y 1).val / 512 = j
  · rw [if_pos hj]
    refine View.read_writes_cons_unit_of_mem v f inb P [] y _ rfl fun a => ?_
    match a with
    | ⟨0, _⟩ => show (y 0).val = 0 + (y 0).val; omega
    | ⟨1, _⟩ => show (y 1).val = 512 * j + (y 1).val % 512; omega
  · rw [if_neg hj]
    refine (View.read_writes_cons_unit_of_not_mem v f inb P [] y rfl 1 ?_).trans rfl
    show (y 1).val < 512 * j ∨ 512 * j + 512 ≤ (y 1).val
    omega

/-- The saved triangle after one block was stored. -/
theorem read_putBlk (v : View sig .tc .vmem S1536x1536 .f32) (f : v.ty.Contents (Elt F)) (a b : ℕ) {off : Fin 2 → ℕ}
    (hoff : off = ![512 * a, 512 * b]) (inb : ∀ a, off a + S512x512.size a ≤ S1536x1536.size a) (P : S512x512.Idx → Elt F .f32) :
    v.read (Elt F) (v.writes (Elt F) f [⟨Rect.unit (s := S1536x1536) off S512x512.size inb, P⟩]) = putBlk a b P (v.read (Elt F) f) := by
  subst hoff
  funext y
  unfold putBlk
  have h0 : (y 0).val < 1536 := (y 0).isLt
  have h1 : (y 1).val < 1536 := (y 1).isLt
  by_cases hj : (y 0).val / 512 = a ∧ (y 1).val / 512 = b
  · rw [if_pos hj]
    refine View.read_writes_cons_unit_of_mem v f inb P [] y _ rfl fun a' => ?_
    match a' with
    | ⟨0, _⟩ => show (y 0).val = 512 * a + (y 0).val % 512; omega
    | ⟨1, _⟩ => show (y 1).val = 512 * b + (y 1).val % 512; omega
  · rw [if_neg hj]
    by_cases ha : (y 0).val / 512 = a
    · refine (View.read_writes_cons_unit_of_not_mem v f inb P [] y rfl 1 ?_).trans rfl
      show (y 1).val < 512 * b ∨ 512 * b + 512 ≤ (y 1).val
      omega
    · refine (View.read_writes_cons_unit_of_not_mem v f inb P [] y rfl 0 ?_).trans rfl
      show (y 0).val < 512 * a ∨ 512 * a + 512 ≤ (y 0).val
      omega

/-- A load of a block of the saved triangle. -/
theorem load_getBlk (v : View sig .tc .vmem S1536x1536 .f32) (f : v.ty.Contents (Elt F)) (a b : ℕ) (ha : a < 3) (hb : b < 3)
    {off : Fin 2 → ℕ} (hoff : off = ![512 * a, 512 * b]) (inb : ∀ a, off a + S512x512.size a ≤ S1536x1536.size a) :
    v.readAt (Elt F) (Rect.unit (s := S1536x1536) off S512x512.size inb).toLoadRect f = getBlk a b (v.read (Elt F) f) := by
  subst hoff
  funext x
  have h0 : (x 0).val < 512 := (x 0).isLt
  have h1 : (x 1).val < 512 := (x 1).isLt
  refine Cert.Reads.readAt_blk v f inb x _ _ ?_ ?_
  · show (512 * a + (x 0).val) % 1536 = 512 * a + (x 0).val; omega
  · show (512 * b + (x 1).val) % 1536 = 512 * b + (x 1).val; omega

/-- A whole load after the sixteen column blocks were stored. -/
theorem readCov_strip [∀ e, Nonempty (Elt F e)] (v : View sig .tc .vmem S512x8192 .f32) (G : S512x8192.Idx → Elt F .f32)
    (L : List (View.Piece (Elt F) S512x8192 .f32)) (hG : ∀ p ∈ L, ∀ x : p.1.shape.Idx, p.2 x = G (p.1.emb x))
    (hc : View.Piece.tiled L S512x512.size = true) (inb : ∀ a, (![0, 0] : Fin 2 → ℕ) a + S512x8192.size a ≤ S512x8192.size a) :
    v.readCov L (Rect.unit (s := S512x8192) ![0, 0] S512x8192.size inb).toLoadRect = G := by
  unfold View.readCov
  rw [Cert.Reads.readAt_all]
  exact read_strip _ _ _ _ hG hc

/-- The second part above the diagonal. -/
theorem seg2_lt (c : Dev nD) (X3 : S16x512.Idx → Elt F .f32) (X2 : S2048x512.Idx → Elt F .f32) (X4 : S2048x16.Idx → Elt F .f32)
    (X5 : S512x2048.Idx → Elt F .f32) (X6 X7 : S512x8192.Idx → Elt F .f32) (X8 : S1536x1536.Idx → Elt F .f32) (Q : PUnit → sProp 𝕄)
    (hC : k1_cond2 i = 1#1) (hD : k1_cond3 i = 1#1) :
    iprop(owns (c : Thread nD τ) arg2 fullShare X2 ∗ owns (c : Thread nD τ) arg4 fullShare X4 ∗ owns (c : Thread nD τ) arg5 fullShare X5
      ∗ owns (c : Thread nD τ) arg6 fullShare X6 ∗ owns (c : Thread nD τ) arg7 fullShare X7 ∗ owns (c : Thread nD τ) arg8 fullShare X8
      ∗ (iprop(owns (c : Thread nD τ) arg2 fullShare X2 ∗ owns (c : Thread nD τ) arg4 fullShare X4
        ∗ owns (c : Thread nD τ) arg5 fullShare (if (i 0).val ≤ (i 1).val then
            putCols (i 1).val (k1_pay5 X6 (vrow X3 (rows (i 1) X2) (rows (i 1) X4))) X5 else X5)
        ∗ owns (c : Thread nD τ) arg6 fullShare X6
        ∗ owns (c : Thread nD τ) arg7 fullShare (if (i 0).val ≤ (i 1).val then vrow X3 (rows (i 1) X2) (rows (i 1) X4) else X7)
        ∗ owns (c : Thread nD τ) arg8 fullShare (if (i 0).val < (i 1).val then
            putBlk ((i 1).val - 1) (i 0).val (k1_pay6 X6 (vrow X3 (rows (i 1) X2) (rows (i 1) X4))) X8 else X8)) -∗ Q ⟨⟩))
    ⊢ wp frame (wpE (defs₀ (F := F)) Variants.none c none) Set.univ
      (seg2 i arg2 harg2 arg3 harg3 arg4 harg4 arg5 harg5 arg6 harg6 arg7 harg7 arg8 harg8 X3) Q := by
  unfold owns
  rw [if_pos ((cond2_iff i).mp hC), if_pos ((cond2_iff i).mp hC)]
  rw [if_pos ((cond3_iff i).mp hD)]
  unfold seg2
  rw [dif_pos hC]
  iintro ⟨⟨%f2, %e2, H2⟩, ⟨%f4, %e4, H4⟩, ⟨%f5, %e5, H5⟩, ⟨%f6, %e6, H6⟩, ⟨%f7, %e7, H7⟩, ⟨%f8, %e8, H8⟩, Hk⟩
  sl_exec
  have hG : ∀ p ∈ seg2_lt.sl.H7_16 i arg2 arg4 c X3 hC f2 f4, ∀ x : p.1.shape.Idx,
      p.2 x = vrow X3 (rows (i 1) X2) (rows (i 1) X4) (p.1.emb x) := by
    unfold seg2_lt.sl.H7_16 seg2_lt.sl.r_5 seg2_lt.sl.r_4 seg2_lt.sl.r_3 seg2_lt.sl.r_2 seg2_lt.sl.r_1 seg2_lt.sl.r
    rw [load_rows _ _ (i 1) (k1_off3_eq i), load_rows _ _ (i 1) (k1_off4_eq i), e2, e4]
    simp only [List.forall_mem_cons, List.not_mem_nil, false_implies, implies_true, and_true]
    refine ⟨piece_ok _ _ _ 15 rfl _ _ ?_, piece_ok _ _ _ 14 rfl _ _ ?_, piece_ok _ _ _ 13 rfl _ _ ?_, piece_ok _ _ _ 12 rfl _ _ ?_, piece_ok _ _ _ 11 rfl _ _ ?_, piece_ok _ _ _ 10 rfl _ _ ?_, piece_ok _ _ _ 9 rfl _ _ ?_, piece_ok _ _ _ 8 rfl _ _ ?_, piece_ok _ _ _ 7 rfl _ _ ?_, piece_ok _ _ _ 6 rfl _ _ ?_, piece_ok _ _ _ 5 rfl _ _ ?_, piece_ok _ _ _ 4 rfl _ _ ?_, piece_ok _ _ _ 3 rfl _ _ ?_, piece_ok _ _ _ 2 rfl _ _ ?_, piece_ok _ _ _ 1 rfl _ _ ?_, piece_ok _ _ _ 0 rfl _ _ ?_⟩ <;> intro r d
    · pointwise [k1_pay4, k1_pay28]
    · pointwise [k1_pay3, k1_pay47, k1_pay28]
    · pointwise [k1_pay46, k1_pay28]
    · pointwise [k1_pay45, k1_pay28]
    · pointwise [k1_pay44, k1_pay28]
    · pointwise [k1_pay43, k1_pay41, k1_pay42, k1_pay28]
    · pointwise [k1_pay40, k1_pay28]
    · pointwise [k1_pay39, k1_pay28]
    · pointwise [k1_pay38, k1_pay28]
    · pointwise [k1_pay37, k1_pay36, k1_pay28]
    · pointwise [k1_pay35, k1_pay28]
    · pointwise [k1_pay34, k1_pay28]
    · pointwise [k1_pay33, k1_pay32, k1_pay28]
    · pointwise [k1_pay31, k1_pay28]
    · pointwise [k1_pay30, k1_pay28]
    · pointwise [k1_pay29, k1_pay28]
  have hT : View.Piece.tiled (seg2_lt.sl.H7_16 i arg2 arg4 c X3 hC f2 f4) S512x512.size = true := by
    unfold seg2_lt.sl.H7_16; rfl
  have hV : seg2_lt.sl.v229 i arg2 arg4 arg7 c X3 hC f2 f4 = vrow X3 (rows (i 1) X2) (rows (i 1) X4) := by
    unfold seg2_lt.sl.v229
    exact readCov_strip _ _ _ hG hT _
  sl_step
  iapply Hk
  isplitl [H2]; · iexists f2; isplitr; · ipureintro; exact e2
                  iexact H2
  isplitl [H4]; · iexists f4; isplitr; · ipureintro; exact e4
                  iexact H4
  isplitl [H5]
  · iexists _; isplitr; swap; · iexact H5
    ipureintro
    rw [hV, Cert.Reads.readAt_all, e6, read_putCols _ _ _ (k1_off5_eq i), e5]
  isplitl [H6]; · iexists f6; isplitr; · ipureintro; exact e6
                  iexact H6
  isplitl [H7]
  · iexists _; isplitr; swap; · iexact H7
    ipureintro
    exact read_strip _ _ _ _ hG hT
  · skip
    iexists _; isplitr; swap; · iexact H8
    ipureintro
    rw [hV, Cert.Reads.readAt_all, e6, read_putBlk _ _ _ _ (off6_eq i ((cond3_iff i).mp hD)), e8]

/-- The second part on the diagonal. -/
theorem seg2_eq (c : Dev nD) (X3 : S16x512.Idx → Elt F .f32) (X2 : S2048x512.Idx → Elt F .f32) (X4 : S2048x16.Idx → Elt F .f32)
    (X5 : S512x2048.Idx → Elt F .f32) (X6 X7 : S512x8192.Idx → Elt F .f32) (X8 : S1536x1536.Idx → Elt F .f32) (Q : PUnit → sProp 𝕄)
    (hC : k1_cond2 i = 1#1) (hD : ¬ k1_cond3 i = 1#1) :
    iprop(owns (c : Thread nD τ) arg2 fullShare X2 ∗ owns (c : Thread nD τ) arg4 fullShare X4 ∗ owns (c : Thread nD τ) arg5 fullShare X5
      ∗ owns (c : Thread nD τ) arg6 fullShare X6 ∗ owns (c : Thread nD τ) arg7 fullShare X7 ∗ owns (c : Thread nD τ) arg8 fullShare X8
      ∗ (iprop(owns (c : Thread nD τ) arg2 fullShare X2 ∗ owns (c : Thread nD τ) arg4 fullShare X4
        ∗ owns (c : Thread nD τ) arg5 fullShare (if (i 0).val ≤ (i 1).val then
            putCols (i 1).val (k1_pay5 X6 (vrow X3 (rows (i 1) X2) (rows (i 1) X4))) X5 else X5)
        ∗ owns (c : Thread nD τ) arg6 fullShare X6
        ∗ owns (c : Thread nD τ) arg7 fullShare (if (i 0).val ≤ (i 1).val then vrow X3 (rows (i 1) X2) (rows (i 1) X4) else X7)
        ∗ owns (c : Thread nD τ) arg8 fullShare (if (i 0).val < (i 1).val then
            putBlk ((i 1).val - 1) (i 0).val (k1_pay6 X6 (vrow X3 (rows (i 1) X2) (rows (i 1) X4))) X8 else X8)) -∗ Q ⟨⟩))
    ⊢ wp frame (wpE (defs₀ (F := F)) Variants.none c none) Set.univ
      (seg2 i arg2 harg2 arg3 harg3 arg4 harg4 arg5 harg5 arg6 harg6 arg7 harg7 arg8 harg8 X3) Q := by
  unfold owns
  rw [if_pos ((cond2_iff i).mp hC), if_pos ((cond2_iff i).mp hC)]
  rw [if_neg (fun h => hD ((cond3_iff i).mpr h))]
  unfold seg2
  rw [dif_pos hC]
  iintro ⟨⟨%f2, %e2, H2⟩, ⟨%f4, %e4, H4⟩, ⟨%f5, %e5, H5⟩, ⟨%f6, %e6, H6⟩, ⟨%f7, %e7, H7⟩, ⟨%f8, %e8, H8⟩, Hk⟩
  sl_exec
  have hG : ∀ p ∈ seg2_eq.sl.H7_16 i arg2 arg4 c X3 hC f2 f4, ∀ x : p.1.shape.Idx,
      p.2 x = vrow X3 (rows (i 1) X2) (rows (i 1) X4) (p.1.emb x) := by
    unfold seg2_eq.sl.H7_16 seg2_eq.sl.r_5 seg2_eq.sl.r_4 seg2_eq.sl.r_3 seg2_eq.sl.r_2 seg2_eq.sl.r_1 seg2_eq.sl.r
    rw [load_rows _ _ (i 1) (k1_off3_eq i), load_rows _ _ (i 1) (k1_off4_eq i), e2, e4]
    simp only [List.forall_mem_cons, List.not_mem_nil, false_implies, implies_true, and_true]
    refine ⟨piece_ok _ _ _ 15 rfl _ _ ?_, piece_ok _ _ _ 14 rfl _ _ ?_, piece_ok _ _ _ 13 rfl _ _ ?_, piece_ok _ _ _ 12 rfl _ _ ?_, piece_ok _ _ _ 11 rfl _ _ ?_, piece_ok _ _ _ 10 rfl _ _ ?_, piece_ok _ _ _ 9 rfl _ _ ?_, piece_ok _ _ _ 8 rfl _ _ ?_, piece_ok _ _ _ 7 rfl _ _ ?_, piece_ok _ _ _ 6 rfl _ _ ?_, piece_ok _ _ _ 5 rfl _ _ ?_, piece_ok _ _ _ 4 rfl _ _ ?_, piece_ok _ _ _ 3 rfl _ _ ?_, piece_ok _ _ _ 2 rfl _ _ ?_, piece_ok _ _ _ 1 rfl _ _ ?_, piece_ok _ _ _ 0 rfl _ _ ?_⟩ <;> intro r d
    · pointwise [k1_pay4, k1_pay28]
    · pointwise [k1_pay3, k1_pay47, k1_pay28]
    · pointwise [k1_pay46, k1_pay28]
    · pointwise [k1_pay45, k1_pay28]
    · pointwise [k1_pay44, k1_pay28]
    · pointwise [k1_pay43, k1_pay41, k1_pay42, k1_pay28]
    · pointwise [k1_pay40, k1_pay28]
    · pointwise [k1_pay39, k1_pay28]
    · pointwise [k1_pay38, k1_pay28]
    · pointwise [k1_pay37, k1_pay36, k1_pay28]
    · pointwise [k1_pay35, k1_pay28]
    · pointwise [k1_pay34, k1_pay28]
    · pointwise [k1_pay33, k1_pay32, k1_pay28]
    · pointwise [k1_pay31, k1_pay28]
    · pointwise [k1_pay30, k1_pay28]
    · pointwise [k1_pay29, k1_pay28]
  have hT : View.Piece.tiled (seg2_eq.sl.H7_16 i arg2 arg4 c X3 hC f2 f4) S512x512.size = true := by
    unfold seg2_eq.sl.H7_16; rfl
  have hV : seg2_eq.sl.v229 i arg2 arg4 arg7 c X3 hC f2 f4 = vrow X3 (rows (i 1) X2) (rows (i 1) X4) := by
    unfold seg2_eq.sl.v229
    exact readCov_strip _ _ _ hG hT _
  sl_step
  iapply Hk
  isplitl [H2]; · iexists f2; isplitr; · ipureintro; exact e2
                  iexact H2
  isplitl [H4]; · iexists f4; isplitr; · ipureintro; exact e4
                  iexact H4
  isplitl [H5]
  · iexists _; isplitr; swap; · iexact H5
    ipureintro
    rw [hV, Cert.Reads.readAt_all, e6, read_putCols _ _ _ (k1_off5_eq i), e5]
  isplitl [H6]; · iexists f6; isplitr; · ipureintro; exact e6
                  iexact H6
  isplitl [H7]
  · iexists _; isplitr; swap; · iexact H7
    ipureintro
    exact read_strip _ _ _ _ hG hT
  · skip
    iexists f8; isplitr; · ipureintro; exact e8
    iexact H8

/-- The second part: on and above the diagonal the other strip is filled, their product is stored in the output strip, and
    above the diagonal its transpose is stored in the saved triangle. -/
theorem seg2_run (c : Dev nD) (X3 : S16x512.Idx → Elt F .f32) (X2 : S2048x512.Idx → Elt F .f32) (X4 : S2048x16.Idx → Elt F .f32)
    (X5 : S512x2048.Idx → Elt F .f32) (X6 X7 : S512x8192.Idx → Elt F .f32) (X8 : S1536x1536.Idx → Elt F .f32) (Q : PUnit → sProp 𝕄) :
    iprop(owns (c : Thread nD τ) arg2 fullShare X2 ∗ owns (c : Thread nD τ) arg4 fullShare X4 ∗ owns (c : Thread nD τ) arg5 fullShare X5
      ∗ owns (c : Thread nD τ) arg6 fullShare X6 ∗ owns (c : Thread nD τ) arg7 fullShare X7 ∗ owns (c : Thread nD τ) arg8 fullShare X8
      ∗ (iprop(owns (c : Thread nD τ) arg2 fullShare X2 ∗ owns (c : Thread nD τ) arg4 fullShare X4
        ∗ owns (c : Thread nD τ) arg5 fullShare (if (i 0).val ≤ (i 1).val then
            putCols (i 1).val (k1_pay5 X6 (vrow X3 (rows (i 1) X2) (rows (i 1) X4))) X5 else X5)
        ∗ owns (c : Thread nD τ) arg6 fullShare X6
        ∗ owns (c : Thread nD τ) arg7 fullShare (if (i 0).val ≤ (i 1).val then vrow X3 (rows (i 1) X2) (rows (i 1) X4) else X7)
        ∗ owns (c : Thread nD τ) arg8 fullShare (if (i 0).val < (i 1).val then
            putBlk ((i 1).val - 1) (i 0).val (k1_pay6 X6 (vrow X3 (rows (i 1) X2) (rows (i 1) X4))) X8 else X8)) -∗ Q ⟨⟩))
    ⊢ wp frame (wpE (defs₀ (F := F)) Variants.none c none) Set.univ
      (seg2 i arg2 harg2 arg3 harg3 arg4 harg4 arg5 harg5 arg6 harg6 arg7 harg7 arg8 harg8 X3) Q := by
  by_cases hC : k1_cond2 i = 1#1
  · by_cases hD : k1_cond3 i = 1#1
    · exact seg2_lt i arg2 harg2 arg3 harg3 arg4 harg4 arg5 harg5 arg6 harg6 arg7 harg7 arg8 harg8 c X3 X2 X4 X5 X6 X7 X8 Q hC hD
    · exact seg2_eq i arg2 harg2 arg3 harg3 arg4 harg4 arg5 harg5 arg6 harg6 arg7 harg7 arg8 harg8 c X3 X2 X4 X5 X6 X7 X8 Q hC hD
  · rw [if_neg (fun h => hC ((cond2_iff i).mpr h)), if_neg (fun h => hC ((cond2_iff i).mpr h)),
      if_neg (fun h => hC ((cond2_iff i).mpr (Nat.le_of_lt h)))]
    unfold seg2
    rw [dif_neg hC]
    iintro ⟨H2, H4, H5, H6, H7, H8, Hk⟩
    sl_step
    iapply Hk
    isplitl [H2]; · iexact H2
    isplitl [H4]; · iexact H4
    isplitl [H5]; · iexact H5
    isplitl [H6]; · iexact H6
    isplitl [H7]; · iexact H7
    iexact H8

/-- The third part: below the diagonal the saved block is copied out. -/
theorem seg4_run (c : Dev nD) (X5 : S512x2048.Idx → Elt F .f32) (X8 : S1536x1536.Idx → Elt F .f32) (Q : PUnit → sProp 𝕄) :
    iprop(owns (c : Thread nD τ) arg5 fullShare X5 ∗ owns (c : Thread nD τ) arg8 fullShare X8
      ∗ (iprop(owns (c : Thread nD τ) arg5 fullShare (if (i 1).val < (i 0).val then
            putCols (i 1).val (getBlk ((i 0).val - 1) (i 1).val X8) X5 else X5)
        ∗ owns (c : Thread nD τ) arg8 fullShare X8) -∗ Q ⟨⟩))
    ⊢ wp frame (wpE (defs₀ (F := F)) Variants.none c none) Set.univ (seg4 i arg5 arg8) Q := by
  unfold owns
  by_cases hC : k1_cond4 i = 1#1
  · have hlt := (cond4_iff i).mp hC
    have hi : (i 0).val < 4 := (i 0).isLt
    rw [if_pos hlt]
    unfold seg4
    rw [dif_pos hC]
    iintro ⟨⟨%f5, %e5, H5⟩, ⟨%f8, %e8, H8⟩, Hk⟩
    sl_exec
    sl_step
    iapply Hk
    isplitl [H5]
    · iexists _; isplitr; swap; · iexact H5
      ipureintro
      rw [read_putCols _ _ _ (k1_off8_eq i), load_getBlk _ _ _ _ (by omega) (by omega) (off7_eq i hlt), e5, e8]
    · iexists f8; isplitr; · ipureintro; exact e8
      iexact H8
  · rw [if_neg (fun h => hC ((cond4_iff i).mpr h))]
    unfold seg4
    rw [dif_neg hC]
    iintro ⟨H5, H8, Hk⟩
    sl_step
    iapply Hk
    isplitl [H5]; · iexact H5
    iexact H8

/-- A load of a column block of a strip. -/
theorem load_cols (v : View sig .tc .vmem S512x2048 .f32) (f : v.ty.Contents (Elt F)) (k : Fin 4) {off : Fin 2 → ℕ}
    (hoff : off = ![0, 512 * k.val]) (inb : ∀ a, off a + S512x512.size a ≤ S512x2048.size a) :
    v.readAt (Elt F) (Rect.unit (s := S512x2048) off S512x512.size inb).toLoadRect f = cols k (v.read (Elt F) f) := by
  subst hoff
  funext x
  refine Cert.Reads.readAt_blk v f inb x _ _ ?_ rfl
  show (x 0).val = 0 + (x 0).val; omega

/-- One trip of the search loop is one halving of the bounds over the strip held. -/
theorem trip_val (c : Dev nD) (hC : k1_cond5 i = 1#1) (f : BufTy.Contents (Elt F) arg5.view.ty) (k : Fin k1_t1_loop.trips)
    (acc : IVec S512x1 32 × IVec S512x1 32) :
    (trip_k1_t1 (F := F) Variants.none c none i arg2 harg2 arg3 harg3 arg4 harg4 arg5 harg5 arg6 harg6 arg7 harg7 arg8 harg8 hC f k).1 acc
      = searchStep (arg5.view.read (Elt F) f) acc := by
  unfold trip_k1_t1 searchStep
  rw [← load_cols arg5.view f 0 (off := ![0, 0]) rfl inb_S512x2048_S512x512_0_0,
    ← load_cols arg5.view f 1 (off := ![0, 512]) rfl inb_S512x2048_S512x512_0_512,
    ← load_cols arg5.view f 2 (off := ![0, 1024]) rfl inb_S512x2048_S512x512_0_1024,
    ← load_cols arg5.view f 3 (off := ![0, 1536]) rfl inb_S512x2048_S512x512_0_1536]
  rfl

/-- The loop's carried bounds before trip `n` are those of `n` halvings. -/
theorem st_val (c : Dev nD) (hC : k1_cond5 i = 1#1) (f : BufTy.Contents (Elt F) arg5.view.ty) (init : IVec S512x1 32 × IVec S512x1 32) :
    ∀ n : ℕ, n ≤ k1_t1_loop.trips →
    st_k1_t1 (F := F) Variants.none c none i arg2 harg2 arg3 harg3 arg4 harg4 arg5 harg5 arg6 harg6 arg7 harg7 arg8 harg8 hC f init n
      = (searchStep (arg5.view.read (Elt F) f))^[n] init
  | 0, _ => st_k1_t1_zero ..
  | n + 1, h => by
    rw [st_k1_t1_succ (k := ⟨n, h⟩), Function.iterate_succ_apply', ← st_val c hC f init n (Nat.le_of_succ_le h)]
    exact trip_val _ _ _ _ _ _ _ _ _ _ _ _ _ _ _ c hC f ⟨n, h⟩ _

/-- The lower bounds the search loop ends at. -/
theorem st_last (c : Dev nD) (hC : k1_cond5 i = 1#1) (f : BufTy.Contents (Elt F) arg5.view.ty) :
    (st_k1_t1 (F := F) Variants.none c none i arg2 harg2 arg3 harg3 arg4 harg4 arg5 harg5 arg6 harg6 arg7 harg7 arg8 harg8 hC f
      (k1_pay52, k1_pay53) (Scf.trips k1_t1_loop.lb k1_t1_loop.ub k1_t1_loop.st)).1 = searchLo (arg5.view.read (Elt F) f) := by
  unfold searchLo
  rw [st_val _ _ _ _ _ _ _ _ _ _ _ _ _ _ _ c hC f _ _ (Nat.le_refl _)]
  rw [show k1_t1_loop.trips = 31 from by decide +kernel]

/-- A stored block masked by the row thresholds is the masked strip on its rectangle. -/
theorem mask_piece (X : S512x2048.Idx → Elt F .f32) (k : Fin 4)
    {off : Fin 2 → ℕ} (hoff : off = ![0, 512 * k.val]) (inb : ∀ a, off a + S512x512.size a ≤ S512x2048.size a)
    (P : S512x512.Idx → Elt F .f32) (h : P = k1_pay58 (searchLo X) (cols k X)) (x : S512x512.Idx) :
    P x = maskRows X ((Rect.unit (s := S512x2048) off S512x512.size inb).emb x) := by
  subst hoff
  subst h
  have hx0 : (x 0).val < 512 := (x 0).isLt
  have hx1 : (x 1).val < 512 := (x 1).isLt
  unfold maskRows
  have hy : (((Rect.unit (s := S512x2048) ![0, 512 * k.val] S512x512.size inb).emb x) 1).val = 512 * k.val + (x 1).val := by
    show 512 * k.val + 1 * (x 1).val = _; omega
  have hz : (((Rect.unit (s := S512x2048) ![0, 512 * k.val] S512x512.size inb).emb x) 0).val = (x 0).val := by
    show 0 + 1 * (x 0).val = _; omega
  have e1 : ∀ h', (⟨(((Rect.unit (s := S512x2048) ![0, 512 * k.val] S512x512.size inb).emb x) 1).val / 512, h'⟩ : Fin 4) = k :=
    fun h' => Fin.ext (by show (((Rect.unit (s := S512x2048) ![0, 512 * k.val] S512x512.size inb).emb x) 1).val / 512 = k.val; omega)
  rw [e1]
  refine congrArg (k1_pay58 (searchLo X) (cols k X)) ((eq_ix2 x).trans ?_)
  funext a
  refine Fin.ext ?_
  match a with
  | ⟨0, _⟩ => exact hz.symm
  | ⟨1, _⟩ =>
    show (x 1).val = (((Rect.unit (s := S512x2048) ![0, 512 * k.val] S512x512.size inb).emb x) 1).val % 512
    omega

theorem pay59_eq (lo : IVec S512x1 32) (X : Vec F S512x512 .f32) : k1_pay59 lo X = k1_pay58 lo X := rfl
theorem pay60_eq (lo : IVec S512x1 32) (X : Vec F S512x512 .f32) : k1_pay60 lo X = k1_pay58 lo X := rfl
theorem pay7_eq (lo : IVec S512x1 32) (X : Vec F S512x512 .f32) : k1_pay7 (k1_pay57 lo) (k1_pay61 X) = k1_pay58 lo X := rfl

/-- What an output strip reads after its four column blocks were stored. -/
theorem read_cols (v : View sig .tc .vmem S512x2048 .f32) (f : v.ty.Contents (Elt F)) (G : S512x2048.Idx → Elt F .f32)
    (L : List (View.Piece (Elt F) S512x2048 .f32)) (hG : ∀ p ∈ L, ∀ x : p.1.shape.Idx, p.2 x = G (p.1.emb x))
    (hc : View.Piece.tiled L S512x512.size = true) : v.read (Elt F) (v.writes (Elt F) f L) = G :=
  funext fun y => View.read_writes_apply_of_pieces v f G L hG y (View.cover_of_tiled L S512x512.size hc y)

/-- The last part: at the strip's last point the strip is masked by its searched threshold. -/
theorem seg5_run (c : Dev nD) (X5 : S512x2048.Idx → Elt F .f32) (Q : PUnit → sProp 𝕄) :
    iprop(owns (c : Thread nD τ) arg5 fullShare X5
      ∗ (owns (c : Thread nD τ) arg5 fullShare (if (i 1).val = 3 then maskRows X5 else X5) -∗ Q ⟨⟩))
    ⊢ wp frame (wpE (defs₀ (F := F)) Variants.none c none) Set.univ
      (seg5 i arg2 harg2 arg3 harg3 arg4 harg4 arg5 harg5 arg6 harg6 arg7 harg7 arg8 harg8) Q := by
  unfold owns
  by_cases hC : k1_cond5 i = 1#1
  · rw [if_pos ((cond5_iff i).mp hC)]
    unfold seg5
    rw [dif_pos hC]
    iintro ⟨⟨%f5, %e5, H5⟩, Hk⟩
    sl_exec
    unfold seg5_run.sl.r seg5_run.sl.r_1 seg5_run.sl.v30 seg5_run.sl.v37 seg5_run.sl.v44
    rw [st_last, e5]
    simp only [ load_cols _ _ 0 (off := ![0, 0]) rfl, load_cols _ _ 1 (off := ![0, 512]) rfl, load_cols _ _ 2 (off := ![0, 1024]) rfl, load_cols _ _ 3 (off := ![0, 1536]) rfl, e5]
    sl_step
    iapply Hk
    iexists _; isplitr; swap; · iexact H5
    ipureintro
    rw [pay59_eq, pay60_eq, pay7_eq]
    refine read_cols _ _ (maskRows X5) _ ?_ rfl
    simp only [List.forall_mem_cons, List.not_mem_nil, false_implies, implies_true, and_true]
    exact ⟨mask_piece X5 3 rfl _ _ rfl, mask_piece X5 2 rfl _ _ rfl, mask_piece X5 1 rfl _ _ rfl, mask_piece X5 0 rfl _ _ rfl⟩
  · rw [if_neg (fun h => hC ((cond5_iff i).mpr h))]
    unfold seg5
    rw [dif_neg hC]
    iintro ⟨H5, Hk⟩
    sl_step
    iapply Hk
    iexact H5

/-- The row strip after a point. -/
def next6 (X3 : S16x512.Idx → Elt F .f32) (X2 : S2048x512.Idx → Elt F .f32) (X4 : S2048x16.Idx → Elt F .f32)
    (X6 : S512x8192.Idx → Elt F .f32) : S512x8192.Idx → Elt F .f32 :=
  if (i 1).val = 0 then vrow X3 (rows (i 0) X2) (rows (i 0) X4) else X6

/-- The column strip after a point. -/
def next7 (X3 : S16x512.Idx → Elt F .f32) (X2 : S2048x512.Idx → Elt F .f32) (X4 : S2048x16.Idx → Elt F .f32)
    (X7 : S512x8192.Idx → Elt F .f32) : S512x8192.Idx → Elt F .f32 :=
  if (i 0).val ≤ (i 1).val then vrow X3 (rows (i 1) X2) (rows (i 1) X4) else X7

/-- The saved triangle after a point. -/
def next8 (X3 : S16x512.Idx → Elt F .f32) (X2 : S2048x512.Idx → Elt F .f32) (X4 : S2048x16.Idx → Elt F .f32)
    (X6 : S512x8192.Idx → Elt F .f32) (X8 : S1536x1536.Idx → Elt F .f32) : S1536x1536.Idx → Elt F .f32 :=
  if (i 0).val < (i 1).val then
    putBlk ((i 1).val - 1) (i 0).val (k1_pay6 (next6 i X3 X2 X4 X6) (vrow X3 (rows (i 1) X2) (rows (i 1) X4))) X8 else X8

/-- The output strip after a point, before it is masked: one column block is computed, or copied from the saved triangle. -/
def fill5 (X3 : S16x512.Idx → Elt F .f32) (X2 : S2048x512.Idx → Elt F .f32) (X4 : S2048x16.Idx → Elt F .f32)
    (X6 : S512x8192.Idx → Elt F .f32) (X8 : S1536x1536.Idx → Elt F .f32) (X5 : S512x2048.Idx → Elt F .f32) :
    S512x2048.Idx → Elt F .f32 :=
  if (i 0).val ≤ (i 1).val then
    putCols (i 1).val (k1_pay5 (next6 i X3 X2 X4 X6) (vrow X3 (rows (i 1) X2) (rows (i 1) X4))) X5
  else putCols (i 1).val (getBlk ((i 0).val - 1) (i 1).val X8) X5

/-- The output strip after a point. -/
def next5 (X3 : S16x512.Idx → Elt F .f32) (X2 : S2048x512.Idx → Elt F .f32) (X4 : S2048x16.Idx → Elt F .f32)
    (X6 : S512x8192.Idx → Elt F .f32) (X8 : S1536x1536.Idx → Elt F .f32) (X5 : S512x2048.Idx → Elt F .f32) :
    S512x2048.Idx → Elt F .f32 :=
  if (i 1).val = 3 then maskRows (fill5 i X3 X2 X4 X6 X8 X5) else fill5 i X3 X2 X4 X6 X8 X5

/-- The two exclusive cases in one. -/
theorem fill5_eq (X3 : S16x512.Idx → Elt F .f32) (X2 : S2048x512.Idx → Elt F .f32) (X4 : S2048x16.Idx → Elt F .f32)
    (X6 : S512x8192.Idx → Elt F .f32) (X8 : S1536x1536.Idx → Elt F .f32) (X5 : S512x2048.Idx → Elt F .f32) :
    fill5 i X3 X2 X4 X6 X8 X5 = if (i 1).val < (i 0).val then
      putCols (i 1).val (getBlk ((i 0).val - 1) (i 1).val (next8 i X3 X2 X4 X6 X8))
        (if (i 0).val ≤ (i 1).val then
          putCols (i 1).val (k1_pay5 (next6 i X3 X2 X4 X6) (vrow X3 (rows (i 1) X2) (rows (i 1) X4))) X5 else X5)
      else (if (i 0).val ≤ (i 1).val then
          putCols (i 1).val (k1_pay5 (next6 i X3 X2 X4 X6) (vrow X3 (rows (i 1) X2) (rows (i 1) X4))) X5 else X5) := by
  unfold fill5 next8
  by_cases h : (i 1).val < (i 0).val
  · rw [if_pos h, if_neg (Nat.not_le.mpr h), if_neg (Nat.not_le.mpr h), if_neg (Nat.not_lt.mpr (Nat.le_of_lt h))]
  · rw [if_neg h, if_pos (Nat.le_of_not_lt h), if_pos (Nat.le_of_not_lt h)]

/-- The load's run. -/
theorem seg0_run (c : Dev nD) (X3 : S16x512.Idx → Elt F .f32) (Q : Vec F S16x512 .f32 → sProp 𝕄) :
    iprop(owns (c : Thread nD τ) arg3 fullShare X3 ∗ (owns (c : Thread nD τ) arg3 fullShare X3 -∗ Q X3))
    ⊢ wp frame (wpE (defs₀ (F := F)) Variants.none c none) Set.univ (seg0 (F := F) arg3) Q := by
  unfold owns seg0
  iintro ⟨⟨%f3, %e3, H3⟩, Hk⟩
  sl_exec
  rw [Cert.Reads.readAt_all, e3]
  sl_step
  iapply Hk
  iexists f3; isplitr; · ipureintro; exact e3
  iexact H3

/-- The whole body's run. -/
theorem body1_run (c : Dev nD) (X3 : S16x512.Idx → Elt F .f32) (X2 : S2048x512.Idx → Elt F .f32) (X4 : S2048x16.Idx → Elt F .f32)
    (X5 : S512x2048.Idx → Elt F .f32) (X6 X7 : S512x8192.Idx → Elt F .f32) (X8 : S1536x1536.Idx → Elt F .f32) (Q : PUnit → sProp 𝕄) :
    iprop(owns (c : Thread nD τ) arg2 fullShare X2 ∗ owns (c : Thread nD τ) arg3 fullShare X3 ∗ owns (c : Thread nD τ) arg4 fullShare X4
      ∗ owns (c : Thread nD τ) arg5 fullShare X5
      ∗ owns (c : Thread nD τ) arg6 fullShare X6 ∗ owns (c : Thread nD τ) arg7 fullShare X7 ∗ owns (c : Thread nD τ) arg8 fullShare X8
      ∗ (iprop(owns (c : Thread nD τ) arg2 fullShare X2 ∗ owns (c : Thread nD τ) arg3 fullShare X3 ∗ owns (c : Thread nD τ) arg4 fullShare X4
        ∗ owns (c : Thread nD τ) arg5 fullShare (next5 i X3 X2 X4 X6 X8 X5)
        ∗ owns (c : Thread nD τ) arg6 fullShare (next6 i X3 X2 X4 X6)
        ∗ owns (c : Thread nD τ) arg7 fullShare (next7 i X3 X2 X4 X7)
        ∗ owns (c : Thread nD τ) arg8 fullShare (next8 i X3 X2 X4 X6 X8)) -∗ Q ⟨⟩))
    ⊢ wp frame (wpE (defs₀ (F := F)) Variants.none c none) Set.univ (cc1__body i arg2 harg2 arg3 harg3 arg4 harg4 arg5 harg5 arg6 harg6 arg7 harg7 arg8 harg8) Q := by
  rw [body_parts]
  simp only [wp_bind]
  unfold owns
  iintro ⟨H2, H3, H4, H5, H6, H7, H8, Hk⟩
  iapply (seg0_run arg3 c X3)
  unfold owns
  isplitl [H3]; · iexact H3
  iintro H3
  iapply (seg1_run i arg2 harg2 arg3 harg3 arg4 harg4 arg5 harg5 arg6 harg6 arg7 harg7 arg8 harg8 c X3 X2 X4 X6)
  unfold owns
  isplitl [H2]; · iexact H2
  isplitl [H4]; · iexact H4
  isplitl [H6]; · iexact H6
  iintro ⟨H2, H4, H6⟩
  iapply (seg2_run i arg2 harg2 arg3 harg3 arg4 harg4 arg5 harg5 arg6 harg6 arg7 harg7 arg8 harg8 c X3 X2 X4 X5 (next6 i X3 X2 X4 X6) X7 X8)
  unfold owns
  isplitl [H2]; · iexact H2
  isplitl [H4]; · iexact H4
  isplitl [H5]; · iexact H5
  isplitl [H6]; · iexact H6
  isplitl [H7]; · iexact H7
  isplitl [H8]; · iexact H8
  iintro ⟨H2, H4, H5, H6, H7, H8⟩
  iapply (seg4_run i arg5 arg8 c)
  unfold owns
  isplitl [H5]; · iexact H5
  isplitl [H8]; · iexact H8
  iintro ⟨H5, H8⟩
  iapply (seg5_run i arg2 harg2 arg3 harg3 arg4 harg4 arg5 harg5 arg6 harg6 arg7 harg7 arg8 harg8 c (fill5 i X3 X2 X4 X6 X8 X5))
  unfold owns
  isplitl [H5]
  · rw [fill5_eq]; iexact H5
  iintro H5
  iapply Hk
  isplitl [H2]; · iexact H2
  isplitl [H3]; · iexact H3
  isplitl [H4]; · iexact H4
  isplitl [H5]; · iexact H5
  isplitl [H6]; · iexact H6
  isplitl [H7]; · iexact H7
  iexact H8

end Cert.KernelIdeal.Hand

end
-- ==== Proof.Inv.lean ====
/-
  What the scratch buffers and the output strip of the second kernel hold from one grid point to the next.
-/
module

public import proofs.«01_k».proof.Proof.Body1

@[expose] public section

noncomputable section

namespace Cert.KernelIdeal.Hand

open Cert.KernelIdeal Cert.KernelIdeal.Gen
open Idealize.ShloMosaic
open Idealize.ShloMosaic.Pipeline (Dat Cfg Window)

variable {F : FTy → Type} [FloatOps F]

variable (X2 : S2048x512.Idx → Elt F .f32) (X3 : S16x512.Idx → Elt F .f32) (X4 : S2048x16.Idx → Elt F .f32)

/-- Strip `k` of the scaled rows. -/
def strip (k : Fin 4) : S512x8192.Idx → Elt F .f32 := vrow X3 (rows k X2) (rows k X4)

/-- Block `(i, j)` of the attention: a product of two strips on and above the diagonal, the transposed product below. -/
def blk (i j : Fin 4) : S512x512.Idx → Elt F .f32 :=
  if i.val ≤ j.val then k1_pay5 (strip X2 X3 X4 i) (strip X2 X3 X4 j) else k1_pay6 (strip X2 X3 X4 j) (strip X2 X3 X4 i)

/-- Row strip `i` of the attention. -/
def att (i : Fin 4) : S512x2048.Idx → Elt F .f32 := fun y =>
  blk X2 X3 X4 i ⟨(y 1).val / 512, Nat.div_lt_of_lt_mul (y 1).isLt⟩ (ix2 (y 0) ⟨(y 1).val % 512, Nat.mod_lt _ (by decide)⟩)

/-- What the scratch buffers hold before point `n`: the row strip inside a row of the grid, and every block of the
    triangle saved so far. -/
structure Inv (n : ℕ) (X6 : S512x8192.Idx → Elt F .f32) (X8 : S1536x1536.Idx → Elt F .f32) : Prop where
  row : n % 4 ≠ 0 → ∀ k : Fin 4, k.val = n / 4 → X6 = strip X2 X3 X4 k
  tri : ∀ i j : Fin 4, i.val < j.val → 4 * i.val + j.val < n →
    getBlk (j.val - 1) i.val X8 = k1_pay6 (strip X2 X3 X4 i) (strip X2 X3 X4 j)

/-- Reading a block of the triangle after a block is replaced. -/
theorem getBlk_putBlk {α : Type} (a b a' b' : ℕ) (ha : a < 3) (hb : b < 3) (ha' : a' < 3) (hb' : b' < 3)
    (P : S512x512.Idx → α) (X : S1536x1536.Idx → α) :
    getBlk a' b' (putBlk a b P X) = if a' = a ∧ b' = b then P else getBlk a' b' X := by
  funext y
  have h0 : (y 0).val < 512 := (y 0).isLt
  have h1 : (y 1).val < 512 := (y 1).isLt
  unfold getBlk putBlk
  have e0 : (512 * a' + (y 0).val) % 1536 = 512 * a' + (y 0).val := Nat.mod_eq_of_lt (by omega)
  have e1 : (512 * b' + (y 1).val) % 1536 = 512 * b' + (y 1).val := Nat.mod_eq_of_lt (by omega)
  have d0 : (512 * a' + (y 0).val) % 1536 / 512 = a' := by omega
  have d1 : (512 * b' + (y 1).val) % 1536 / 512 = b' := by omega
  by_cases h : a' = a ∧ b' = b
  · rw [if_pos h, if_pos (by exact ⟨d0.trans h.1, d1.trans h.2⟩)]
    refine congrArg P ?_
    funext q
    refine Fin.ext ?_
    match q with
    | ⟨0, _⟩ => show (512 * a' + (y 0).val) % 1536 % 512 = (y 0).val; omega
    | ⟨1, _⟩ => show (512 * b' + (y 1).val) % 1536 % 512 = (y 1).val; omega
  · rw [if_neg h, if_neg (by intro h'; exact h ⟨d0.symm.trans h'.1, d1.symm.trans h'.2⟩)]

theorem coords_row : ∀ t : Fin grid1.N, (grid1.coords t 0).val = t.val / 4 := by decide +kernel
theorem coords_col : ∀ t : Fin grid1.N, (grid1.coords t 1).val = t.val % 4 := by decide +kernel

variable {X2 X3 X4}

/-- After a point the row strip is the one of its row. -/
theorem Inv.row_now {t : Fin grid1.N} {X6 : S512x8192.Idx → Elt F .f32} {X8 : S1536x1536.Idx → Elt F .f32}
    (h : Inv X2 X3 X4 t.val X6 X8) : next6 (grid1.coords t) X3 X2 X4 X6 = strip X2 X3 X4 (grid1.coords t 0) := by
  unfold next6
  split
  · rfl
  · rename_i h0
    rw [coords_col] at h0
    exact h.row h0 _ (coords_row t)

/-- A point keeps the invariant. -/
theorem Inv.next {t : Fin grid1.N} {X6 : S512x8192.Idx → Elt F .f32} {X8 : S1536x1536.Idx → Elt F .f32}
    (h : Inv X2 X3 X4 t.val X6 X8) :
    Inv X2 X3 X4 (t.val + 1) (next6 (grid1.coords t) X3 X2 X4 X6) (next8 (grid1.coords t) X3 X2 X4 X6 X8) := by
  constructor
  · intro hn k hk
    rw [h.row_now]
    refine congrArg _ (Fin.ext ?_)
    rw [coords_row]; omega
  · intro i j hij hlt
    have r := coords_row t
    have q := coords_col t
    have hi := i.isLt
    have hj := j.isLt
    unfold next8
    split
    · rename_i hc
      have c0 : (grid1.coords t 0).val < 4 := (grid1.coords t 0).isLt
      have c1 : (grid1.coords t 1).val < 4 := (grid1.coords t 1).isLt
      rw [getBlk_putBlk _ _ _ _ (by omega) (by omega) (by omega) (by omega), h.row_now]
      split
      · rename_i he
        have ei : (grid1.coords t 0) = i := Fin.ext (by omega)
        have ej : (grid1.coords t 1) = j := Fin.ext (by omega)
        rw [ei, ej]; rfl
      · rename_i he
        refine h.tri i j hij ?_
        omega
    · refine h.tri i j hij ?_
      omega

/-- After a point the strip's columns up to that point's block are the attention's. -/
theorem Inv.fill {t : Fin grid1.N} {X6 : S512x8192.Idx → Elt F .f32} {X8 : S1536x1536.Idx → Elt F .f32}
    (h : Inv X2 X3 X4 t.val X6 X8) (X5 : S512x2048.Idx → Elt F .f32)
    (h5 : ∀ y : S512x2048.Idx, (y 1).val / 512 < t.val % 4 → X5 y = att X2 X3 X4 (grid1.coords t 0) y)
    (y : S512x2048.Idx) (hy : (y 1).val / 512 ≤ t.val % 4) :
    fill5 (grid1.coords t) X3 X2 X4 X6 X8 X5 y = att X2 X3 X4 (grid1.coords t 0) y := by
  have r := coords_row t
  have q := coords_col t
  have c0 : (grid1.coords t 0).val < 4 := (grid1.coords t 0).isLt
  have c1 : (grid1.coords t 1).val < 4 := (grid1.coords t 1).isLt
  unfold fill5
  rw [h.row_now]
  split
  · rename_i hle
    unfold putCols
    split
    · rename_i he
      unfold att blk
      have ej : (⟨(y 1).val / 512, Nat.div_lt_of_lt_mul (y 1).isLt⟩ : Fin 4) = grid1.coords t 1 := Fin.ext he
      rw [ej, if_pos hle]; rfl
    · exact h5 y (by omega)
  · rename_i hle
    unfold putCols
    split
    · rename_i he
      unfold att blk
      have ej : (⟨(y 1).val / 512, Nat.div_lt_of_lt_mul (y 1).isLt⟩ : Fin 4) = grid1.coords t 1 := Fin.ext he
      rw [ej, if_neg hle]
      exact congrFun (h.tri (grid1.coords t 1) (grid1.coords t 0) (by omega) (by omega)) _
    · exact h5 y (by omega)

variable (X2 X3 X4)

/-- What the output strip holds after point `t`, on the columns written so far: the attention, masked once the strip is full. -/
def Rel (t : Fin grid1.N) (X : S512x2048.Idx → Elt F .f32) : Prop :=
  ∀ y : S512x2048.Idx, (y 1).val / 512 ≤ t.val % 4 →
    X y = (if t.val % 4 = 3 then maskRows (att X2 X3 X4 (grid1.coords t 0)) else att X2 X3 X4 (grid1.coords t 0)) y

variable {X2 X3 X4}

/-- A point takes the strip from what the previous point of its row left to what it leaves. -/
theorem Inv.rel {t : Fin grid1.N} {X6 : S512x8192.Idx → Elt F .f32} {X8 : S1536x1536.Idx → Elt F .f32}
    (h : Inv X2 X3 X4 t.val X6 X8) (X5 : S512x2048.Idx → Elt F .f32)
    (h5 : t.val % 4 ≠ 0 → ∀ t' : Fin grid1.N, t'.val + 1 = t.val → Rel X2 X3 X4 t' X5) :
    Rel X2 X3 X4 t (next5 (grid1.coords t) X3 X2 X4 X6 X8 X5) := by
  have h5' : ∀ y : S512x2048.Idx, (y 1).val / 512 < t.val % 4 → X5 y = att X2 X3 X4 (grid1.coords t 0) y := by
    intro y hy
    have ht := t.isLt
    have := h5 (by omega) ⟨t.val - 1, by omega⟩ (by show t.val - 1 + 1 = t.val; omega) y (by show _ ≤ (t.val - 1) % 4; omega)
    rw [this, if_neg (by show ¬ (t.val - 1) % 4 = 3; omega)]
    refine congrArg (fun k => att X2 X3 X4 k y) (Fin.ext ?_)
    rw [coords_row, coords_row]; show (t.val - 1) / 4 = t.val / 4; omega
  intro y hy
  unfold next5
  rw [coords_col]
  by_cases hl : t.val % 4 = 3
  · rw [if_pos hl, if_pos hl]
    refine congrFun (congrArg maskRows (funext fun z => h.fill X5 h5' z ?_)) y
    have : (z 1).val < 2048 := (z 1).isLt
    omega
  · rw [if_neg hl, if_neg hl]
    exact h.fill X5 h5' y hy

end Cert.KernelIdeal.Hand

end
-- ==== Proof.Region1.lean ====
/-
  The second kernel's region: its proof data and the obligation of its body.  The output strip is held to a relation, since
  its columns to the right of the current point's block are whatever the staging buffer held.
-/
module

public import proofs.«01_k».proof.Proof.Region0
public import proofs.«01_k».proof.Proof.Inv
public import Idealize.ShloMosaic.Lib.Pipeline.DatRel

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ)

/-- The context, as the second region's window stages it. -/
abbrev inC (c : Dev nD) : S2048x512.Idx → Elt F .f32 := V0 m c main_arg0

/-- The weights. -/
abbrev inW (c : Dev nD) : S16x512.Idx → Elt F .f32 := V0 m c main_arg1

/-- The reciprocal norms, as the first region leaves them. -/
abbrev inR (c : Dev nD) : S2048x16.Idx → Elt F .f32 := (dat0 m c).arrAt 2 cfg0.N

/-- The invariant before point `n`: the scratch buffers hold what `Inv` says, the first region's staging buffers anything. -/
def phi1 (c : Dev nD) (n : ℕ) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ ∃ (X6 X7 : S512x8192.Idx → Elt F .f32) (X8 : S1536x1536.Idx → Elt F .f32),
        ⌜Inv (inC m c) (inW m c) (inR m c) n X6 X8⌝
        ∗ owns (c : Thread nD τ) (Memref.whole cc1_scratch0) fullShare X6
        ∗ owns (c : Thread nD τ) (Memref.whole cc1_scratch1) fullShare X7
        ∗ owns (c : Thread nD τ) (Memref.whole cc1_scratch2) fullShare X8)

/-- The proof data of the second region; what is said of the output window is `rel1`. -/
def dat1 (c : Dev nD) : Dat τ (Elt F) Unit ℕ (UR sig nD τ) ℕ cfg1 c where
  A w := match w with
    | ⟨0, _⟩ => V0 m c main_arg0
    | ⟨1, _⟩ => V0 m c main_arg1
    | ⟨2, _⟩ => (dat0 m c).arrAt 2 cfg0.N
    | ⟨3, _⟩ => V0 m c main_v0
  after w t := match w with
    | ⟨0, _⟩ => inC m c
    | ⟨1, _⟩ => inW m c
    | ⟨2, _⟩ => inR m c
    | ⟨3, _⟩ => att (inC m c) (inW m c) (inR m c) (grid1.coords t 0)
  Φ t := phi1 m c t.val
  q _ := fullShare
  owed _ := 0

/-- Only the output window is held to a relation. -/
def fgt1 (w : Fin cfg1.W) : Bool := w.val == 3

/-- What the body leaves in the output window. -/
def rel1 (c : Dev nD) (w : Fin cfg1.W) (t : Fin cfg1.N) : ((cfg1.win w).block.Idx → Elt F (cfg1.win w).elt) → Prop :=
  match w with
  | ⟨0, _⟩ => fun _ => True
  | ⟨1, _⟩ => fun _ => True
  | ⟨2, _⟩ => fun _ => True
  | ⟨3, _⟩ => Rel (inC m c) (inW m c) (inR m c) t

/-- The second region's data with the output window held to `rel1`. -/
abbrev rdat1 (c : Dev nD) := (dat1 m c).toRRel fgt1 (rel1 m c)

/-- The context window's block is the whole context. -/
theorem blk1_0 (t : Fin cfg1.N) (f : S2048x512.Idx → Elt F .f32) : ((cfg1.win 0).blk t).view.read (Elt F) f = f := by
  funext y
  refine congrArg f ?_
  funext a
  refine Fin.ext ?_
  match a with
  | ⟨0, _⟩ => show 0 * 2048 + 1 * (y 0).val = (y 0).val; omega
  | ⟨1, _⟩ => show 0 * 512 + 1 * (y 1).val = (y 1).val; omega

/-- The weight window's block is the whole weights. -/
theorem blk1_1 (t : Fin cfg1.N) (f : S16x512.Idx → Elt F .f32) : ((cfg1.win 1).blk t).view.read (Elt F) f = f := by
  funext y
  refine congrArg f ?_
  funext a
  refine Fin.ext ?_
  match a with
  | ⟨0, _⟩ => show 0 * 16 + 1 * (y 0).val = (y 0).val; omega
  | ⟨1, _⟩ => show 0 * 512 + 1 * (y 1).val = (y 1).val; omega

/-- The norms window's block is the whole array of reciprocal norms. -/
theorem blk1_2 (t : Fin cfg1.N) (f : S2048x16.Idx → Elt F .f32) : ((cfg1.win 2).blk t).view.read (Elt F) f = f := by
  funext y
  refine congrArg f ?_
  funext a
  refine Fin.ext ?_
  match a with
  | ⟨0, _⟩ => show 0 * 2048 + 1 * (y 0).val = (y 0).val; omega
  | ⟨1, _⟩ => show 0 * 16 + 1 * (y 1).val = (y 1).val; omega

/-- The context window holds the context when the body runs. -/
theorem before1_0 (c : Dev nD) (t : Fin cfg1.N) (d) : (dat1 m c).before 0 t d = inC m c := by
  rw [Dat.before_in_eq_fetched (dat1 m c) 0 rfl (fun _ => rfl) (fun _ _ _ => rfl) (fun t => (blk1_0 t (inC m c)).symm) t d]
  exact blk1_0 t (inC m c)

/-- The weight window holds the weights when the body runs. -/
theorem before1_1 (c : Dev nD) (t : Fin cfg1.N) (d) : (dat1 m c).before 1 t d = inW m c := by
  rw [Dat.before_in_eq_fetched (dat1 m c) 1 rfl (fun _ => rfl) (fun _ _ _ => rfl) (fun t => (blk1_1 t (inW m c)).symm) t d]
  exact blk1_1 t (inW m c)

/-- The norms window holds the reciprocal norms when the body runs. -/
theorem before1_2 (c : Dev nD) (t : Fin cfg1.N) (d) : (dat1 m c).before 2 t d = inR m c := by
  rw [Dat.before_in_eq_fetched (dat1 m c) 2 rfl (fun _ => rfl) (fun _ _ _ => rfl) (fun t => (blk1_2 t (inR m c)).symm) t d]
  exact blk1_2 t (inR m c)

theorem fetch1_3 (t : Fin cfg1.N) : (cfg1.win 3).fetch t = false := rfl

/-- What the body finds in the output window inside a row of the grid is what the previous point left there. -/
theorem finds1 (c : Dev nD) (t : Fin cfg1.N) (Y : (cfg1.win 3).block.Idx → Elt F (cfg1.win 3).elt)
    (hY : (rdat1 m c).Finds 3 t Y) (ht : t.val % 4 ≠ 0) (t' : Fin cfg1.N) (e : t'.val + 1 = t.val) :
    Rel (inC m c) (inW m c) (inR m c) t' Y := by
  rw [Pipeline.RDat.finds_of_pos _ (fetch1_3 t) (by omega)] at hY
  have e' : (⟨t.val - 1, by omega⟩ : Fin cfg1.N) = t' := Fin.ext (by show t.val - 1 = _; omega)
  rw [e'] at hY
  rcases hY with hf | h
  · have := (flush1_3 t').mp hf
    omega
  · exact Pipeline.Dat.toRRel_leaves (dat1 m c) (w := 3) rfl h

/-- The body of the second region as the pipeline calls it. -/
theorem row1 (t : Fin cfg1.N) : defs₀ (F := F) .tc cfg1.body (cfg1.bodyArgs t (cfg1.slots t)) = bodyAt1 t := by
  unfold defs₀; rw [Defs.onTc_tc]

/-- The body's triple at a point, over the staging buffers. -/
theorem sound1 (c : Dev nD) (t : Fin cfg1.N) :
    iprop((dat1 m c).Φ t.castSucc ∗ (dat1 m c).owesAt () t.castSucc
      ∗ (∃ d, owns c.tc ((cfg1.win 0).stage (cfg1.slots t 0)) fullShare ((dat1 m c).before 0 t d))
      ∗ (∃ d, owns c.tc ((cfg1.win 1).stage (cfg1.slots t 1)) fullShare ((dat1 m c).before 1 t d))
      ∗ (∃ d, owns c.tc ((cfg1.win 2).stage (cfg1.slots t 2)) fullShare ((dat1 m c).before 2 t d))
      ∗ (∃ Y, ⌜(rdat1 m c).Finds 3 t Y⌝ ∗ owns c.tc ((cfg1.win 3).stage (cfg1.slots t 3)) fullShare Y))
    ⊢ wp frame (wpE (defs₀ (F := F)) Variants.none c.tc none) Set.univ (bodyAt1 t) (fun _ =>
      iprop((dat1 m c).Φ t.succ ∗ (dat1 m c).owesAt () t.succ
      ∗ owns c.tc ((cfg1.win 0).stage (cfg1.slots t 0)) fullShare ((dat1 m c).after 0 t)
      ∗ owns c.tc ((cfg1.win 1).stage (cfg1.slots t 1)) fullShare ((dat1 m c).after 1 t)
      ∗ owns c.tc ((cfg1.win 2).stage (cfg1.slots t 2)) fullShare ((dat1 m c).after 2 t)
      ∗ (∃ X, ⌜rel1 m c 3 t X⌝ ∗ owns c.tc ((cfg1.win 3).stage (cfg1.slots t 3)) fullShare X))) := by
  rw [show (dat1 m c).Φ t.castSucc = phi1 m c t.val from rfl, show (dat1 m c).Φ t.succ = phi1 m c (t.val + 1) from rfl]
  unfold phi1
  iintro ⟨⟨G0, G1, G2, G3, G4, %X6, %X7, %X8, %hI, H6, H7, H8⟩, HO, ⟨%d0, H0⟩, ⟨%d1, H1⟩, ⟨%d2, H2⟩, %Y, %hY, H3⟩
  rw [before1_0, before1_1, before1_2,
    show (dat1 m c).owesAt () t.succ = (dat1 m c).owesAt () t.castSucc from rfl]
  iapply (body1_run (grid1.coords t) _ _ _ _ _ _ _ _ _ _ _ _ _ _ c (inW m c) (inC m c) (inR m c) Y X6 X7 X8 _)
  isplitl [H0]; · iexact H0
  isplitl [H1]; · iexact H1
  isplitl [H2]; · iexact H2
  isplitl [H3]; · iexact H3
  isplitl [H6]; · iexact H6
  isplitl [H7]; · iexact H7
  isplitl [H8]; · iexact H8
  iintro ⟨H0, H1, H2, H3, H6, H7, H8⟩
  isplitl [G0 G1 G2 G3 G4 H6 H7 H8]
  · isplitl [G0]; · iexact G0
    isplitl [G1]; · iexact G1
    isplitl [G2]; · iexact G2
    isplitl [G3]; · iexact G3
    isplitl [G4]; · iexact G4
    iexists _; iexists _; iexists _
    isplitr; · ipureintro; exact hI.next
    isplitl [H6]; · iexact H6
    isplitl [H7]; · iexact H7
    iexact H8
  isplitl [HO]; · iexact HO
  isplitl [H0]; · iexact H0
  isplitl [H1]; · iexact H1
  isplitl [H2]; · iexact H2
  iexists _
  isplitr; swap; · iexact H3
  ipureintro
  exact hI.rel Y fun ht t' e => finds1 m c t Y hY ht t' e

/-- The body's obligation at every point. -/
theorem oblig1 (c : Dev nD) : Pipeline.BodyObligationRel (dat1 m c) (defs₀ (F := F)) Variants.none () Set.univ fgt1 (rel1 m c) := fun t => by
  rw [bigSep_W1, bigSep_W1, row1]
  exact triple_restated (sound1 m c t) rfl .rfl fun _ => .rfl

end Cert.KernelIdeal.Hand

end
-- ==== Proof.Run.lean ====
/-
  The launch: the two regions one after the other, and what the memory holds at the end.
-/
module

public import proofs.«01_k».proof.Proof.Region1
public import Idealize.ShloMosaic.Lib.Pipeline.ArrRel
public import Idealize.ShloMosaic.Lib.Pipeline.ValueKit

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- No level is assigned: no core owes another anything. -/
abbrev L : GSem nD τ sig → Finset Unit := fun _ => ∅
abbrev lv : GSem nD τ sig → Unit → ℕ := fun _ _ => 0

/-- The core owes nothing. -/
abbrev R (c : Dev nD) : sProp 𝕄 := iprop(∃ W, owes (c : Thread nD τ) 0 W)

/-- The proof data of both regions. -/
def rdats : (p : Fin 2) → (c : Dev nD) → Pipeline.RDat τ (Elt F) Unit ℕ (UR sig nD τ) ℕ (Pipeline.pin (pcfgs (F := F)) adm p) c
  | ⟨0, _⟩, c => (dat0 m c).toR
  | ⟨1, _⟩, c => rdat1 m c

/-- Between the regions: the arguments as launched, the reciprocal norms as the first region leaves them, the result's
    buffer as launched. -/
def mid (c : Dev nD) : sProp 𝕄 :=
  iprop((((c : Thread nD τ).loc main_arg0) ↦{fullShare} V0 m c main_arg0) ∗ (((c : Thread nD τ).loc main_arg1) ↦{fullShare} V0 m c main_arg1)
    ∗ (((c : Thread nD τ).loc main_call0_v0) ↦{fullShare} inR m c) ∗ (((c : Thread nD τ).loc main_v0) ↦{fullShare} V0 m c main_v0))

theorem nonemptyElt (e : EltTy) : Nonempty (Elt F e) := ⟨default⟩

instance : ∀ e, Nonempty (Elt F e) := nonemptyElt

/-- The arrays of the first region after it. -/
theorem arrays0_end (c : Dev nD) : ((rdats m 0 c).arraysAt (Pipeline.pin (pcfgs (F := F)) adm 0).N : sProp 𝕄)
    ⊢ iprop((((c : Thread nD τ).loc main_arg0) ↦{fullShare} V0 m c main_arg0) ∗ (((c : Thread nD τ).loc main_arg1) ↦{fullShare} V0 m c main_arg1)
    ∗ (((c : Thread nD τ).loc main_call0_v0) ↦{fullShare} inR m c)) := by
  rw [show (rdats m 0 c).arraysAt (Pipeline.pin (pcfgs (F := F)) adm 0).N = (dat0 m c).toR.arraysAt cfg0.N from rfl, Dat.toR_arraysAt_eq,
    show (dat0 m c).arrays = (rdats m 0 c).arrays from rfl,
    Pipeline.RDat.arrays_eq (pcfgs (F := F)) adm (rdats m) 0 c launch0.arr_whole ((dat0 m c).share_full fun _ => rfl)]
  refine (Entails.of_eq (bigSep_W0 _)).trans ?_
  rw [(dat0 m c).arrAt_in 0 rfl, (dat0 m c).arrAt_in 1 rfl]
  exact .rfl

/-- The first region's record. -/
def reg0 : Pipeline.RDat.RegionSeg (pcfgs (F := F)) adm (rdats m) () defs₀ Variants.none L lv 0 where
  win := launch0.win.to₀
  block_pos := launch0.block_pos
  stage_whole := launch0.stage_whole
  K := PEmpty
  osem := fun k => k.elim
  ho := Pipeline.OwnSemFacts.none _
  hbody c := (oblig0 m c).loose.toR
  hwaits := Pipeline.RDat.hwaits_of_owed_zero _ _ _ _ L lv 0 fun _ _ => rfl
  pre c := iprop(StableHlo.held (c : Thread nD τ) (Pipeline.ucRefs τ sig) (V0 m c) ∗ R c)
  post c := iprop(mid m c ∗ R c)
  X c := iprop(emp)
  Y c := iprop(emp)
  Z c := ((c : Thread nD τ).loc main_v0) ↦{fullShare} V0 m c main_v0
  hentry c := by
    rw [show StableHlo.held (c : Thread nD τ) (Pipeline.ucRefs τ sig) (V0 m c) = unscopedBufs c (fun b => V0 m c b) from (Pipeline.unscopedBufs_held c _).symm]
    have hsplit := (Pipeline.RDat.arrays_of_unscopedBufs (pcfgs (F := F)) adm (rdats m) (p := 0) launch0.win launch0.arr_whole c
      ((dat0 m c).share_full fun _ => rfl) (fun b => V0 m c b) (fun _ => rfl)).trans (sep_mono .rfl (Entails.of_eq (unscopedRest0_eq c (fun b => V0 m c b))))
    iintro ⟨⟨Hub, HO⟩, -, -⟩
    ihave H := hsplit $$ Hub
    icases H with ⟨Ha, H7⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    iexact H7
  hin c := by
    rw [show (rdats m 0 c).Φ 0 = Pipeline.scopedRest spec0 c from rfl,
      show Pipeline.scopedRest (Pipeline.pin (pcfgs (F := F)) adm 0).spec c = Pipeline.scopedRest spec0 c from rfl]
    iintro ⟨-, -, Hr⟩
    iexact Hr
  hout c := by
    rw [show (rdats m 0 c).Φ (Fin.last (Pipeline.pin (pcfgs (F := F)) adm 0).N) = Pipeline.scopedRest spec0 c from rfl,
      show Pipeline.scopedRest (Pipeline.pin (pcfgs (F := F)) adm 0).spec c = Pipeline.scopedRest spec0 c from rfl]
    iintro Hr
    isplitr; · iempintro
    isplitr; · unfold Pipeline.ownSems0; rw [show (Finset.univ : Finset PEmpty) = ∅ from rfl, BI.bigSep_empty]; iempintro
    iexact Hr
  hexit c := by
    iintro ⟨Ha, HO, -, HZ⟩
    ihave Ha := (arrays0_end m c) $$ Ha
    icases Ha with ⟨H0, H1, H2⟩
    imodintro
    isplitr [HO]
    · unfold mid
      isplitl [H0]; · iexact H0
      isplitl [H1]; · iexact H1
      isplitl [H2]; · iexact H2
      iexact HZ
    · unfold Pipeline.RDat.owesAt Pipeline.owesWithin
      icases HO with ⟨%W, -, HO⟩; iexists W; iexact HO

/-- The arrays of the second region before it. -/
theorem arrays1_start (c : Dev nD) : mid m c ⊢ ((rdats m 1 c).arrays (rdats m 1 c).A : sProp 𝕄) := by
  rw [Pipeline.RDat.arrays_eq (pcfgs (F := F)) adm (rdats m) 1 c launch1.arr_whole ((dat1 m c).share_full fun _ => rfl)]
  refine .trans ?_ (Entails.of_eq (bigSep_W1 _).symm)
  exact .rfl

/-- The second region's record. -/
def reg1 : Pipeline.RDat.RegionSeg (pcfgs (F := F)) adm (rdats m) () defs₀ Variants.none L lv 1 where
  win := launch1.win.to₀
  block_pos := launch1.block_pos
  stage_whole := launch1.stage_whole
  K := PEmpty
  osem := fun k => k.elim
  ho := Pipeline.OwnSemFacts.none _
  hbody c := (oblig1 m c).toRRel
  hwaits := Pipeline.RDat.hwaits_of_owed_zero _ _ _ _ L lv 1 fun _ _ => rfl
  pre c := iprop(mid m c ∗ R c)
  post c := iprop((rdats m 1 c).arraysAt cfg1.N ∗ R c)
  X c := iprop(emp)
  Y c := iprop(emp)
  Z c := iprop(emp)
  hentry c := by
    iintro ⟨⟨Hub, HO⟩, -, -⟩
    ihave Ha := (arrays1_start m c) $$ Hub
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr <;> iempintro
  hin c := by
    rw [show (rdats m 1 c).Φ 0 = phi1 m c 0 from rfl,
      show Pipeline.scopedRest (Pipeline.pin (pcfgs (F := F)) adm 1).spec c = Pipeline.scopedRest spec1 c from rfl, scopedRest1_eq]
    unfold phi1
    simp only [owns_whole_eq]
    iintro ⟨-, -, G0, G1, G2, G3, G4, ⟨%f6, H6⟩, ⟨%f7, H7⟩, ⟨%f8, H8⟩⟩
    isplitl [G0]; · iexact G0
    isplitl [G1]; · iexact G1
    isplitl [G2]; · iexact G2
    isplitl [G3]; · iexact G3
    isplitl [G4]; · iexact G4
    iexists f6; iexists f7; iexists f8
    isplitr; · ipureintro; exact ⟨fun h => absurd rfl h, fun _ _ _ h => absurd h (Nat.not_lt_zero _)⟩
    isplitl [H6]; · iexists f6; isplitr; · ipureintro; rfl
                    iexact H6
    isplitl [H7]; · iexists f7; isplitr; · ipureintro; rfl
                    iexact H7
    iexists f8; isplitr; · ipureintro; rfl
    iexact H8
  hout c := by
    rw [show (rdats m 1 c).Φ (Fin.last (Pipeline.pin (pcfgs (F := F)) adm 1).N) = phi1 m c cfg1.N from rfl,
      show Pipeline.scopedRest (Pipeline.pin (pcfgs (F := F)) adm 1).spec c = Pipeline.scopedRest spec1 c from rfl, scopedRest1_eq]
    unfold phi1
    simp only [owns_whole_eq]
    iintro ⟨G0, G1, G2, G3, G4, %f6, %f7, %f8, -, ⟨%g6, -, H6⟩, ⟨%g7, -, H7⟩, ⟨%g8, -, H8⟩⟩
    isplitr; · iempintro
    isplitr; · unfold Pipeline.ownSems0; rw [show (Finset.univ : Finset PEmpty) = ∅ from rfl, BI.bigSep_empty]; iempintro
    isplitl [G0]; · iexact G0
    isplitl [G1]; · iexact G1
    isplitl [G2]; · iexact G2
    isplitl [G3]; · iexact G3
    isplitl [G4]; · iexact G4
    isplitl [H6]; · iexists g6; iexact H6
    isplitl [H7]; · iexists g7; iexact H7
    iexists g8; iexact H8
  hexit c := by
    iintro ⟨Ha, HO, -, -⟩
    imodintro
    isplitl [Ha]; · iexact Ha
    unfold Pipeline.RDat.owesAt Pipeline.owesWithin
    icases HO with ⟨%W, -, HO⟩; iexists W; iexact HO

/-- @main as the list of the two. -/
abbrev rsegs : List (Pipeline.RDat.Seg (pcfgs (F := F)) adm (rdats m) () defs₀ Variants.none L lv) := [.region (reg0 m), .region (reg1 m)]

set_option backward.isDefEq.respectTransparency.types false in
/-- Every weakly fair execution of @main terminates; at the end every array is what the second region may leave in it, and
    every semaphore counter is zero. -/
theorem run_arr : θ_run (defs (F := F)) (onTc (τ := τ) (main (F := F))) ⟨m, fun _ => 0, ρ⟩ (fun r =>
    (∀ (c : Dev nD) (w : Fin cfg1.W), (rdat1 m c).ArrAt w cfg1.N (r.2.mem ((spec1 w).arr.view.loc (c : Thread nD τ)))) ∧ r.2.sem = fun _ => 0) :=
  Pipeline.RDat.θ_run_regions_kit_sems (pcfgs (F := F)) adm (rdats m) () cellOf_inj emb₁ defs₀ Variants.none L lv m ρ main (rsegs m)
    (fun c Q => by
      rewrite [main_chain c, Pipeline.RDat.Seg.run_eq_chain, show (rsegs m).map Pipeline.RDat.Seg.prog
        = [Prog.lift (.customCall (Pipeline.entry 0) ()), Prog.lift (.customCall (Pipeline.entry 1) ())] from rfl]
      exact .rfl)
    (by simp only [Pipeline.RDat.Seg.pipes_region, Pipeline.RDat.Seg.pipes_nil]; decide) (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      iintro Hu; imodintro
      isplitl [Hu]
      · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := fun c => (rdats m 1 c).arraysAt cfg1.N)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c) from Pipeline.unscopedBufs_held c (V0 m c)]
      iintro ⟨⟨Hh, -, HO, -, -, -⟩, -⟩
      imodintro
      isplitl [Hh]; · iexact Hh
      iexists ∅; iexact HO)
    (QY := fun c s => ∀ w : Fin cfg1.W, (rdat1 m c).ArrAt w cfg1.N (s.mem ((spec1 w).arr.view.loc (c : Thread nD τ))))
    (hfin := fun c s' => by
      iintro ⟨Ha, HSI⟩
      ihave Hr := (Pipeline.RDat.arrays_read (pcfgs (F := F)) adm (rdats m) (p := 1) launch1.arr_whole c cfg1.N s') $$ [Ha HSI]
      · isplitl [Ha] <;> iassumption
      icases Hr with ⟨%ha, HSI⟩
      imodintro
      isplitr; · ipureintro; exact ha
      iexact HSI)
    (hQ := fun _ h hz => ⟨h, funext fun g => hz g (.inr (regions_no_unscoped g.2))⟩)

theorem tr3_row : ∀ t : Fin grid1.N, cc1_transform_3 (grid1.coords t) 0 = t.val / 4 := by decide +kernel
theorem tr02_row : ∀ t : Fin grid0.N, cc0_transform_2 (grid0.coords t) 0 = t.val := by decide +kernel
theorem tr00_row : ∀ t : Fin grid0.N, cc0_transform_0 (grid0.coords t) 0 = t.val := by decide +kernel

/-- The reciprocal norms: row strip `k` is computed from row strip `k` of the context and the weights. -/
def normV (C : S2048x512.Idx → Elt F .f32) (W : S16x512.Idx → Elt F .f32) : S2048x16.Idx → Elt F .f32 := fun y =>
  k0_pay1 (rows ⟨(y 0).val / 512, Nat.div_lt_of_lt_mul (y 0).isLt⟩ C) W (ix2 ⟨(y 0).val % 512, Nat.mod_lt _ (by decide)⟩ (y 1))

/-- The first region leaves the reciprocal norms of the arguments. -/
theorem inR_eq (c : Dev nD) : inR m c = normV (inC m c) (inW m c) := by
  refine Dat.arrAt_eq_of_covers _ 2 _ (by decide +kernel) fun t hf y => ?_
  refine Eq.trans (b := k0_pay1 (ctxBlk m c t) (wBlk m c t) y) rfl ?_
  have e0 : (((cfg0.win 2).blk t).view.emb y 0).val = 512 * t.val + (y 0).val := by
    show cc0_transform_2 (grid0.coords t) 0 * 512 + 1 * (y 0).val = _
    rw [tr02_row]; omega
  have e1 : (((cfg0.win 2).blk t).view.emb y 1).val = (y 1).val := by
    show 0 * 16 + 1 * (y 1).val = _
    omega
  have h0 : (y 0).val < 512 := (y 0).isLt
  have hW : wBlk m c t = inW m c := by
    funext z
    refine congrArg (inW m c) (funext fun a => Fin.ext ?_)
    match a with
    | ⟨0, _⟩ => show 0 * 16 + 1 * (z 0).val = (z 0).val; omega
    | ⟨1, _⟩ => show 0 * 512 + 1 * (z 1).val = (z 1).val; omega
  have a : (⟨(((cfg0.win 2).blk t).view.emb y 0).val / 512, Nat.div_lt_of_lt_mul (((cfg0.win 2).blk t).view.emb y 0).isLt⟩ : Fin 4) = ⟨t.val, t.isLt⟩ :=
    Fin.ext (by show (((cfg0.win 2).blk t).view.emb y 0).val / 512 = t.val; omega)
  have hC : ctxBlk m c t = rows ⟨t.val, t.isLt⟩ (inC m c) := by
    funext z
    refine congrArg (inC m c) (funext fun a => Fin.ext ?_)
    match a with
    | ⟨0, _⟩ => show cc0_transform_0 (grid0.coords t) 0 * 512 + 1 * (z 0).val = 512 * t.val + (z 0).val; rw [tr00_row]; omega
    | ⟨1, _⟩ => show 0 * 512 + 1 * (z 1).val = (z 1).val; omega
  unfold normV
  rw [a, hW, hC]
  refine congrArg _ (funext fun q => Fin.ext ?_)
  match q with
  | ⟨0, _⟩ => show (y 0).val = (((cfg0.win 2).blk t).view.emb y 0).val % 512; omega
  | ⟨1, _⟩ => exact e1.symm

/-- The result: row strip `i` is the masked row strip `i` of the attention. -/
def outV (c : Dev nD) : S2048x2048.Idx → Elt F .f32 := fun y =>
  maskRows (att (inC m c) (inW m c) (inR m c) ⟨(y 0).val / 512, Nat.div_lt_of_lt_mul (y 0).isLt⟩)
    (ix2 ⟨(y 0).val % 512, Nat.mod_lt _ (by decide)⟩ (y 1))

/-- What the second region may leave in the result's buffer is `outV`. -/
theorem out_eq (c : Dev nD) (G : Buf (Elt F) ((spec1 3).arr.view.loc (c : Thread nD τ))) (hG : (rdat1 m c).ArrAt 3 cfg1.N G) :
    G = outV m c := by
  obtain ⟨X, hX, hA⟩ := hG.exists_exact
  rw [hA (fun w t => if h : w = 3 then h ▸ X t else (dat1 m c).after w t) fun u _ _ => by simp]
  refine Dat.arrAt_eq_of_covers _ 3 _ (by decide +kernel) fun t hf y => ?_
  have hf' := (flush1_3 t).mp hf
  have hr : Rel (inC m c) (inW m c) (inR m c) t (X t) := Pipeline.Dat.toRRel_leaves (dat1 m c) (w := 3) rfl (hX t t.isLt hf)
  have h1 : (y 1).val < 2048 := (y 1).isLt
  have := hr y (by omega)
  rw [if_pos hf'] at this
  refine Eq.trans (b := X t y) ?_ (this.trans ?_)
  · simp
  · have e0 : (((cfg1.win 3).blk t).view.emb y 0).val = 512 * (t.val / 4) + (y 0).val := by
      show cc1_transform_3 (grid1.coords t) 0 * 512 + 1 * (y 0).val = _
      rw [tr3_row]; omega
    have e1 : (((cfg1.win 3).blk t).view.emb y 1).val = (y 1).val := by
      show 0 * 2048 + 1 * (y 1).val = _
      omega
    have h0 : (y 0).val < 512 := (y 0).isLt
    unfold outV
    have a : (⟨(((cfg1.win 3).blk t).view.emb y 0).val / 512, Nat.div_lt_of_lt_mul (((cfg1.win 3).blk t).view.emb y 0).isLt⟩ : Fin 4) = grid1.coords t 0 :=
      Fin.ext (by rw [coords_row]; show (((cfg1.win 3).blk t).view.emb y 0).val / 512 = _; omega)
    rw [a]
    refine congrArg _ (funext fun q => Fin.ext ?_)
    match q with
    | ⟨0, _⟩ => show (y 0).val = (((cfg1.win 3).blk t).view.emb y 0).val % 512; omega
    | ⟨1, _⟩ => exact e1.symm

/-- Every weakly fair execution of @main terminates; at the end the arguments are as launched, the result is `outV`, and every
    semaphore counter is zero. -/
theorem run_main : θ_run (defs (F := F)) (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v0) = outV m c) ∧ r.2.sem = fun _ => 0) := by
  refine (θ_run defs _ _).mono (fun r h => ⟨fun c => ⟨?_, ?_, ?_⟩, h.2⟩) (run_arr m ρ)
  · have := h.1 c 0
    rw [Pipeline.RDat.ArrAt_in _ 0 rfl] at this
    exact this
  · have := h.1 c 1
    rw [Pipeline.RDat.ArrAt_in _ 1 rfl] at this
    exact this
  · exact out_eq m c _ (h.1 c 3)

end Cert.KernelIdeal.Hand

end
-- ==== Proof.Attn.lean ====
/-
  The attention of the rows of an array with themselves under several weights, over the extended reals: each row scaled by the
  inverse of its weighted length, the inner products of the scaled rows averaged over the weights. Every entry is a real number
  between -1 and 1, whatever the inputs.
-/
module

public import Idealize.ShloMosaic.PureOps.Ideal
public import Idealize.ShloMosaic.Lib.PointwiseCore
public import Mathlib.Analysis.InnerProductSpace.Basic

@[expose] public section

noncomputable section

namespace Cert.Attn

open Idealize.ShloMosaic

/-- The least length a row is divided by. -/
def eps : EReal := Ideal.ofBits .f32 0x2B8CBCCC#32

theorem eps_eq : ∃ e : ℝ, 0 < e ∧ eps = (e : EReal) := by
  refine ⟨9223372 * 2 ^ (-63 : ℤ), by positivity, ?_⟩
  unfold eps
  simp [Ideal.ofBits, Ideal.ieee, -EReal.coe_mul]

/-- The real sum read as an extended real is the sum of the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable (C : (⟨2, ![2048, 512]⟩ : Shape).Idx → EReal) (W : (⟨2, ![16, 512]⟩ : Shape).Idx → EReal)

/-- Row `i` under weight `p`. -/
def weighted (p : Fin 16) (i : Fin 2048) (d : Fin 512) : EReal := C (ix2 i d) * W (ix2 p d)

/-- The length row `i` under weight `p` is divided by. -/
def length (p : Fin 16) (i : Fin 2048) : EReal := max (Ideal.sqrt (∑ d, weighted C W p i d * weighted C W p i d)) eps

/-- Row `i` under weight `p`, scaled. -/
def scaled (p : Fin 16) (i : Fin 2048) (d : Fin 512) : EReal := Ideal.div (weighted C W p i d) (length C W p i)

/-- The attention of row `i` with row `j`. -/
def attn (i j : Fin 2048) : EReal := Ideal.div (∑ p, ∑ d, scaled C W p i d * scaled C W p j d) ((16 : ℝ) : EReal)

theorem length_ne_zero (p : Fin 16) (i : Fin 2048) : length C W p i ≠ 0 := by
  obtain ⟨e, he, h⟩ := eps_eq
  have : (0 : EReal) < length C W p i := by
    unfold length
    rw [h]
    exact lt_of_lt_of_le (EReal.coe_pos.2 he) (le_max_right _ _)
  exact this.ne'

theorem mul_self_nonneg (x : EReal) : 0 ≤ x * x := by
  induction x with
  | bot => rw [EReal.bot_mul_bot]; exact le_top
  | top => rw [EReal.top_mul_top]; exact le_top
  | coe x => rw [← EReal.coe_mul]; exact EReal.coe_nonneg.2 (_root_.mul_self_nonneg x)

/-- A scaled row is a row of real numbers whose squares add up to at most 1. -/
theorem scaled_real (p : Fin 16) (i : Fin 2048) :
    ∃ r : Fin 512 → ℝ, (∀ d, scaled C W p i d = (r d : EReal)) ∧ ∑ d, r d * r d ≤ 1 := by
  by_cases h : ∃ d, weighted C W p i d * weighted C W p i d = ⊤
  · obtain ⟨d, hd⟩ := h
    have hs : ∑ d, weighted C W p i d * weighted C W p i d = ⊤ := by
      refine top_le_iff.1 ?_
      rw [← hd]
      exact Finset.single_le_sum (f := fun d => weighted C W p i d * weighted C W p i d) (fun d _ => mul_self_nonneg _) (Finset.mem_univ d)
    have hl : length C W p i = ⊤ := by
      unfold length
      rw [hs]
      exact top_le_iff.1 (le_max_left _ _)
    refine ⟨fun _ => 0, fun d => ?_, by simp⟩
    unfold scaled Ideal.div
    rw [hl, if_neg (by simp), EReal.inv_top, mul_zero]
    rfl
  · have hx : ∀ d, ∃ x : ℝ, weighted C W p i d = (x : EReal) := fun d => by
      have hd : weighted C W p i d * weighted C W p i d ≠ ⊤ := fun e => h ⟨d, e⟩
      generalize weighted C W p i d = y at *
      induction y with
      | bot => exact absurd EReal.bot_mul_bot hd
      | top => exact absurd EReal.top_mul_top hd
      | coe x => exact ⟨x, rfl⟩
    choose x hx using hx
    obtain ⟨e, he, heps⟩ := eps_eq
    have hs : ∑ d, weighted C W p i d * weighted C W p i d = ((∑ d, x d * x d : ℝ) : EReal) := by
      rw [coe_sum]
      exact Finset.sum_congr rfl fun d _ => by rw [hx d, EReal.coe_mul]
    have hS : 0 ≤ ∑ d, x d * x d := Finset.sum_nonneg fun d _ => _root_.mul_self_nonneg _
    have hl : length C W p i = ((max (Real.sqrt (∑ d, x d * x d)) e : ℝ) : EReal) := by
      unfold length
      rw [hs, heps, EReal.coe_strictMono.monotone.map_max]
      congr 1
      show (if (∑ d, x d * x d) < 0 then ⊥ else ((Real.sqrt (∑ d, x d * x d) : ℝ) : EReal)) = _
      rw [if_neg (not_lt.2 hS)]
    generalize hS' : ∑ d, x d * x d = S at *
    have hm : 0 < max (Real.sqrt S) e := lt_max_of_lt_right he
    have hm2 : S ≤ max (Real.sqrt S) e * max (Real.sqrt S) e := by
      calc S = Real.sqrt S * Real.sqrt S := (Real.mul_self_sqrt hS).symm
        _ ≤ _ := mul_self_le_mul_self (Real.sqrt_nonneg _) (le_max_left _ _)
    generalize max (Real.sqrt S) e = m at *
    refine ⟨fun d => x d * (1 / m), fun d => ?_, ?_⟩
    · unfold scaled
      rw [hl, hx d, Ideal.div_coe hm.ne', EReal.coe_mul]
    · have e1 : ∑ d, x d * (1 / m) * (x d * (1 / m)) = S * (1 / (m * m)) := by
        rw [← hS', Finset.sum_mul]
        exact Finset.sum_congr rfl fun d _ => by field_simp
      rw [e1, mul_one_div, div_le_one (mul_pos hm hm)]
      exact hm2

/-- Every attention entry is a real number between -1 and 1. -/
theorem attn_real (i j : Fin 2048) : ∃ a : ℝ, attn C W i j = (a : EReal) ∧ -1 ≤ a ∧ a ≤ 1 := by
  choose r hr hr1 using fun p => scaled_real C W p i
  choose s hs hs1 using fun p => scaled_real C W p j
  have e : ∑ p, ∑ d, scaled C W p i d * scaled C W p j d = ((∑ p, ∑ d, r p d * s p d : ℝ) : EReal) := by
    rw [coe_sum]
    refine Finset.sum_congr rfl fun p _ => ?_
    rw [coe_sum]
    exact Finset.sum_congr rfl fun d _ => by rw [hr, hs, EReal.coe_mul]
  refine ⟨(∑ p, ∑ d, r p d * s p d) * (1 / 16), ?_, ?_⟩
  · unfold attn
    rw [e, Ideal.div_coe (by norm_num), ← EReal.coe_mul]
  · have hb : ∀ p, -1 ≤ ∑ d, r p d * s p d ∧ ∑ d, r p d * s p d ≤ 1 := fun p => by
      have h1 : ∑ d, r p d * s p d ≤ ∑ d, (r p d * r p d * (1 / 2) + s p d * s p d * (1 / 2)) :=
        Finset.sum_le_sum fun d _ => by nlinarith [sq_nonneg (r p d - s p d)]
      have h2 : ∑ d, -(r p d * r p d * (1 / 2) + s p d * s p d * (1 / 2)) ≤ ∑ d, r p d * s p d :=
        Finset.sum_le_sum fun d _ => by nlinarith [sq_nonneg (r p d + s p d)]
      rw [Finset.sum_neg_distrib] at h2
      rw [Finset.sum_add_distrib, ← Finset.sum_mul, ← Finset.sum_mul] at h1 h2
      have := hr1 p
      have := hs1 p
      constructor <;> linarith
    have h1 : ∑ p : Fin 16, ∑ d, r p d * s p d ≤ ∑ _p : Fin 16, (1 : ℝ) := Finset.sum_le_sum fun p _ => (hb p).2
    have h2 : ∑ _p : Fin 16, (-1 : ℝ) ≤ ∑ p : Fin 16, ∑ d, r p d * s p d := Finset.sum_le_sum fun p _ => (hb p).1
    simp only [Finset.sum_const, Finset.card_univ, Fintype.card_fin] at h1 h2
    norm_num at h1 h2
    constructor <;> linarith

end Cert.Attn

end
-- ==== Proof.TopRow.lean ====
/-
  One row of numbers put in descending order: how many entries exceed a threshold, which entries are the first 64, and what a row
  of updates written at the places of the first 64 leaves.
-/
module

public import Idealize.ShloMosaic.PureOps.Ideal
public import Idealize.ShloMosaic.Lib.SortFacts
public import Idealize.ShloMosaic.Lib.ScatterToDense.Spec
public import Idealize.ShloMosaic.Lib.LaneScatter.Pure

@[expose] public section

noncomputable section

namespace Cert.TopRow

open Idealize.ShloMosaic

variable {n : ℕ} (a : Fin n → EReal)

/-- The places of a row in descending order of its entries. -/
def order : Fin n → Fin n :=
  sortedFrom fun k k' => FloatOps.cmpfTotal (F := Ideal) (φ := .f32) .gt (a k) (a k') == 1#1

theorem before_iff (k k' : Fin n) :
    (FloatOps.cmpfTotal (F := Ideal) (φ := .f32) .gt (a k) (a k') == 1#1) = true ↔ a k' < a k := by
  show (BitVec.ofBool (decide (a k' < a k)) == 1#1) = true ↔ _
  by_cases h : a k' < a k <;> simp [h]

theorem order_injective : Function.Injective (order a) := sortedFrom_injective _
theorem order_surjective : Function.Surjective (order a) := sortedFrom_surjective _

/-- Entries descend along the order. -/
theorem order_le {i j : Fin n} (h : i ≤ j) : a (order a j) ≤ a (order a i) := by
  rcases h.eq_or_lt with rfl | h
  · exact le_refl _
  have := sortedFrom_noInversion _ (fun k k' => FloatOps.cmpfTotal (F := Ideal) (φ := .f32) .gt (a k) (a k') == 1#1)
    (fun x y hxy => by
      rw [before_iff] at hxy
      rw [Bool.eq_false_iff, Ne, before_iff]
      exact hxy.not_gt) (fun _ _ h => h)
    (fun x y z hxy hyz => by
      rw [Bool.eq_false_iff, Ne, before_iff, not_lt] at *
      exact hxy.trans hyz) i j h
  rw [Bool.eq_false_iff, Ne, before_iff, not_lt] at this
  exact this

/-- More than `i` entries exceed `t` exactly when the entry at place `i` of the order does. -/
theorem lt_count_iff (t : EReal) (i : Fin n) :
    i.val + 1 ≤ (Finset.univ.filter fun j => t < a j).card ↔ t < a (order a i) := by
  constructor
  · intro h
    by_contra hc
    rw [not_lt] at hc
    have hs : (Finset.univ.filter fun j => t < a j) ⊆ (Finset.Iio i).image (order a) := by
      intro j hj
      obtain ⟨k, rfl⟩ := order_surjective a j
      refine Finset.mem_image_of_mem _ (Finset.mem_Iio.2 ?_)
      by_contra hk
      exact absurd ((Finset.mem_filter.1 hj).2) (not_lt.2 ((order_le a (not_lt.1 hk)).trans hc))
    have h1 := Finset.card_le_card hs
    have h2 := Finset.card_image_le (s := Finset.Iio i) (f := order a)
    rw [Fin.card_Iio] at h2
    omega
  · intro h
    have hs : (Finset.Iic i).image (order a) ⊆ Finset.univ.filter fun j => t < a j := by
      intro j hj
      obtain ⟨k, hk, rfl⟩ := Finset.mem_image.1 hj
      exact Finset.mem_filter.2 ⟨Finset.mem_univ _, lt_of_lt_of_le h (order_le a (Finset.mem_Iic.1 hk))⟩
    have h1 := Finset.card_le_card hs
    rw [Finset.card_image_of_injective _ (order_injective a), Fin.card_Iic] at h1
    exact h1

/-- A threshold between places `i` and `i + 1` of the order is exceeded by the entries up to place `i` and no others. -/
theorem lt_iff_of_between {t : EReal} {i i' : Fin n} (hi : i'.val = i.val + 1) (h0 : t < a (order a i)) (h1 : a (order a i') ≤ t)
    (k : Fin n) : t < a (order a k) ↔ k ≤ i := by
  constructor
  · intro h
    by_contra hk
    exact absurd h (not_lt.2 ((order_le a (show i' ≤ k by rw [Fin.le_def]; have := not_le.1 hk; rw [Fin.lt_def] at this; omega)).trans h1))
  · intro h
    exact lt_of_lt_of_le h0 (order_le a h)

/-- Writing the first `K` entries of the order at their own places leaves, in a row of one fill value, the entries above a
    threshold between places `K - 1` and `K`. -/
theorem GS_order {t fill : EReal} {K : ℕ} {i i' : Fin n} (hi : i'.val = i.val + 1) (hK : K = i.val + 1) (hn : n ≤ 2 ^ 32)
    (h0 : t < a (order a i)) (h1 : a (order a i') ≤ t) (word : ℕ → BitVec 32) (val : ℕ → EReal)
    (hw : ∀ k (hk : k < K), word k = BitVec.ofNat 32 (order a ⟨k, by have := i.isLt; omega⟩).val)
    (hv : ∀ k (hk : k < K), val k = a (order a ⟨k, by have := i.isLt; omega⟩)) (j : Fin n) :
    ScatterToDense.GS word val fill j.val K = if t < a j then a j else fill := by
  have hword : ∀ k (hk : k < K), (word k).toNat = (order a ⟨k, by have := i.isLt; omega⟩).val := fun k hk => by
    rw [hw k hk, BitVec.toNat_ofNat, Nat.mod_eq_of_lt (lt_of_lt_of_le (Fin.isLt _) hn)]
  unfold ScatterToDense.GS
  rcases LaneScatter.lastHit_cases (fun k => j.val = (word k).toNat) val fill K with ⟨k, hk, hh, -, e⟩ | ⟨hno, e⟩
  · rw [e, hv k hk]
    have hj : j = order a ⟨k, by have := i.isLt; omega⟩ := Fin.ext (hh.trans (hword k hk))
    rw [hj, if_pos ((lt_iff_of_between a hi h0 h1 _).2 (by rw [Fin.le_def]; show k ≤ i.val; omega))]
  · rw [e, if_neg]
    intro hlt
    obtain ⟨k, rfl⟩ := order_surjective a j
    have hk := (lt_iff_of_between a hi h0 h1 k).1 hlt
    rw [Fin.le_def] at hk
    exact hno k.val (by omega) (hword k.val (by omega)).symm

end Cert.TopRow

end
-- ==== Proof.TopKRead.lean ====
/-
  The greatest `K` entries of every row of a square array, and their places, read at an index.
-/
module

public import proofs.«01_k».proof.Proof.TopRow
public import Idealize.ShloMosaic.Lib.Pointwise

@[expose] public section

noncomputable section

namespace Cert.TopRow

open Idealize.ShloMosaic

variable {K : ℕ} (A : (⟨2, ![2048, 2048]⟩ : Shape).Idx → EReal) (h : (⟨2, ![2048, 2048]⟩ : Shape).Slices (fun _ => 0) ⟨2, ![2048, K]⟩)

theorem along_ix2 (i j k : Fin 2048) : Shape.Idx.along (s := ⟨2, ![2048, 2048]⟩) (ix2 i j) 1 k = ix2 i k := by
  funext d
  match d with
  | ⟨0, _⟩ => rfl
  | ⟨1, _⟩ => rfl

/-- The index an index of the sorted array reads. -/
def source (j : (⟨2, ![2048, 2048]⟩ : Shape).Idx) : (⟨2, ![2048, 2048]⟩ : Shape).Idx :=
  j.along 1 (sortedFrom (fun k k' => FloatOps.cmpfTotal (F := Ideal) (φ := .f32) .gt (A (j.along 1 k)) (A (j.along 1 k')) == 1#1) (j 1))

theorem source_ix2 (i j : Fin 2048) : source A (ix2 i j) = ix2 i (order (fun j => A (ix2 i j)) j) := by
  have e : (fun k k' : Fin 2048 => FloatOps.cmpfTotal (F := Ideal) (φ := .f32) .gt
      (A (Shape.Idx.along (s := ⟨2, ![2048, 2048]⟩) (ix2 i j) 1 k)) (A (Shape.Idx.along (s := ⟨2, ![2048, 2048]⟩) (ix2 i j) 1 k')) == 1#1)
      = fun k k' : Fin 2048 => FloatOps.cmpfTotal (F := Ideal) (φ := .f32) .gt (A (ix2 i k)) (A (ix2 i k')) == 1#1 := by
    funext k k'
    rw [along_ix2, along_ix2]
  refine (along_ix2 i j _).trans ?_
  unfold order
  rw [← e]
  rfl

/-- The index of the sorted array an index of its first `K` columns reads. -/
theorem slice_ix2 (i : Fin 2048) (k : Fin K) (hk : k.val < 2048) :
    (fun a : Fin 2 => (⟨0 + (ix2 i k (a.cast h.1.symm)).val,
      Nat.lt_of_lt_of_le (Nat.add_lt_add_left (ix2 i k (a.cast h.1.symm)).isLt _) (h.2 a)⟩ : Fin ((⟨2, ![2048, 2048]⟩ : Shape).size a)))
      = ix2 i ⟨k.val, hk⟩ := by
  funext d
  match d with
  | ⟨0, _⟩ => exact Fin.ext (Nat.zero_add _)
  | ⟨1, _⟩ => exact Fin.ext (Nat.zero_add _)

/-- The `k`-th greatest entry of row `i`. -/
theorem topK_val (i : Fin 2048) (k : Fin K) (hk : k.val < 2048) :
    (Host.topK (α := Ideal .f32) ⟨2, ![2048, K]⟩ 1 (FloatOps.cmpfTotal (F := Ideal) (φ := .f32) .gt) A h).1 (ix2 i k)
      = A (ix2 i (order (fun j => A (ix2 i j)) ⟨k.val, hk⟩)) := by
  rw [← source_ix2, ← slice_ix2 h i k hk]
  rfl

/-- Its place. -/
theorem topK_place (i : Fin 2048) (k : Fin K) (hk : k.val < 2048) :
    (Host.topK (α := Ideal .f32) ⟨2, ![2048, K]⟩ 1 (FloatOps.cmpfTotal (F := Ideal) (φ := .f32) .gt) A h).2 (ix2 i k)
      = BitVec.ofNat 32 (order (fun j => A (ix2 i j)) ⟨k.val, hk⟩).val := by
  have e : BitVec.ofNat 32 (order (fun j => A (ix2 i j)) ⟨k.val, hk⟩).val = BitVec.ofNat 32 (source A (ix2 i ⟨k.val, hk⟩) 1).val := by
    rw [source_ix2]
    rfl
  rw [e, ← slice_ix2 h i k hk]
  rfl

end Cert.TopRow

end
-- ==== Proof.PreFacts.lean ====
/-
  The precondition read: what it says of the 64th and the 65th greatest entry of every row of the attention.
-/
module

public import proofs.«01_k».proof.Pre_separated
public import proofs.«01_k».proof.Proof.Attn
public import proofs.«01_k».proof.Proof.TopKRead
public import Idealize.ShloMosaic.Lib.Pointwise
public import Idealize.ShloMosaic.Lib.ReduceAll

@[expose] public section

noncomputable section

namespace Cert.Pre_separated.Hand

open Cert.Pre_separated Cert.Attn Cert.TopRow
open Idealize.ShloMosaic

/-- The shape conditions of the precondition hold. -/
instance facts : Cert.Pre_separated.Facts where
  bcast_S16x512_S16x1x512_0_2 := by decide
  bcast_S2048x512_S1x2048x512_1_2 := by decide
  bcast_S1x2048x512_S16x2048x512_0_1_2 := by decide
  bcast_S16x1x512_S16x2048x512_0_1_2 := by decide
  reducesTo_S16x2048x512_S16x2048_d2 := by decide
  h_S_ := by decide
  bcast_S16x2048_S16x2048x1_0_1 := by decide
  bcast_S_S16x2048x1 := by decide
  bcast_S16x2048x1_S16x2048x512_0_1_2 := by decide
  bcast_S_S2048x2048 := by decide
  sliceFits_S2048x2048_S2048x65 := by decide
  slices_S2048x65_S2048x1_0_63 := by decide
  shapeCasts_S2048x1_S2048 := by decide
  slices_S2048x65_S2048x1_0_64 := by decide
  bcast_S_S2048 := by decide
  reducesTo_S2048_S_d0 := by decide
  dot_S16x2048x512_S16x2048x512_S2048x2048_20_20_1_1_n_n_wf := by decide

open Cert.Pre_separated.Facts

/-- The scaled rows. -/
def preScaled (C : FVec Ideal S2048x512 .f32) (W : FVec Ideal S16x512 .f32) : FVec Ideal S16x2048x512 .f32 :=
  let prod : FVec Ideal S16x2048x512 .f32 := mulf
    (broadcastInDim S16x2048x512 ![0, 1, 2] bcast_S1x2048x512_S16x2048x512_0_1_2 (broadcastInDim S1x2048x512 ![1, 2] bcast_S2048x512_S1x2048x512_1_2 C))
    (broadcastInDim S16x2048x512 ![0, 1, 2] bcast_S16x1x512_S16x2048x512_0_1_2 (broadcastInDim S16x1x512 ![0, 2] bcast_S16x512_S16x1x512_0_2 W))
  Host.divf prod (broadcastInDim S16x2048x512 ![0, 1, 2] bcast_S16x2048x1_S16x2048x512_0_1_2 (maximumf
    (Host.sqrt (broadcastInDim S16x2048x1 ![0, 1] bcast_S16x2048_S16x2048x1_0_1
      (Host.reduceAdd (mulf prod prod) (constant S_ .f32 0x00000000#32) reducesTo_S16x2048x512_S16x2048_d2 h_S_)))
    (broadcastInDim S16x2048x1 ![] bcast_S_S16x2048x1 (constant S_ .f32 0x2B8CBCCC#32))))

/-- The attention. -/
def preAttn (C : FVec Ideal S2048x512 .f32) (W : FVec Ideal S16x512 .f32) : FVec Ideal S2048x2048 .f32 :=
  Host.divf (Host.dotGeneral dot_S16x2048x512_S16x2048x512_S2048x2048_20_20_1_1_n_n none (preScaled C W) (preScaled C W))
    (broadcastInDim S2048x2048 ![] bcast_S_S2048x2048 (constant S_ .f32 0x41800000#32))

/-- The comparison of every row, from the greatest entries. -/
def preTest (T : FVec Ideal S2048x65 .f32) : IVec S2048 1 :=
  let top : FVec Ideal S2048 .f32 := shapeCast S2048 (extractStridedSlice S2048x1 ![0, 63] T slices_S2048x65_S2048x1_0_63) shapeCasts_S2048x1_S2048
  let next : FVec Ideal S2048 .f32 := shapeCast S2048 (extractStridedSlice S2048x1 ![0, 64] T slices_S2048x65_S2048x1_0_64) shapeCasts_S2048x1_S2048
  cmpf .oge (subf top next) (addf (mulf (Host.absf next) (broadcastInDim S2048 ![] bcast_S_S2048 (constant S_ .f32 0x34000000#32)))
    (broadcastInDim S2048 ![] bcast_S_S2048 (constant S_ .f32 0x00800000#32)))

/-- The precondition is that the comparison holds of every row. -/
theorem fn_eq (C : FVec Ideal S2048x512 .f32) (W : FVec Ideal S16x512 .f32) :
    Cert.Pre_separated.fn (F := Ideal) C W = Host.reduce IntOp.andi
      (preTest (Host.topK S2048x65 1 (FloatOps.cmpfTotal .gt) (preAttn C W) sliceFits_S2048x2048_S2048x65).1)
      (constantI S_ 1 1#1) reducesTo_S2048_S_d0 h_S_ := rfl

/-- A scaled row's entry. -/
theorem preScaled_apply (C : FVec Ideal S2048x512 .f32) (W : FVec Ideal S16x512 .f32) (p : Fin 16) (i : Fin 2048) (d : Fin 512) :
    preScaled C W (ix3 p i d) = scaled C W p i d := by
  delta preScaled
  pointwise
  rfl

/-- An entry of the attention. -/
theorem preAttn_apply (C : FVec Ideal S2048x512 .f32) (W : FVec Ideal S16x512 .f32) (i j : Fin 2048) :
    preAttn C W (ix2 i j) = attn C W i j := by
  delta preAttn
  pointwise
  simp only [preScaled_apply]
  unfold attn
  rw [Finset.sum_comm]
  congr 1
  simp [Ideal.ofBits, Ideal.ieee, -EReal.coe_mul]
  norm_num

/-- The comparison of one row, over the reals. -/
theorem preTest_apply (T : FVec Ideal S2048x65 .f32) (i : Fin 2048) (h : preTest T (ix1 i) = 1#1) {v x : ℝ}
    (hv : T (ix2 i 63) = (v : EReal)) (hx : T (ix2 i 64) = (x : EReal)) : x + |x| * 2 ^ (-23 : ℤ) + 2 ^ (-126 : ℤ) ≤ v := by
  delta preTest at h
  pointwise at h
  rw [hv, hx] at h
  have hq : Ideal.ofBits FTy.f32 872415232#32 = ((2 ^ (-23 : ℤ) : ℝ) : EReal) := by
    simp [Ideal.ofBits, Ideal.ieee, -EReal.coe_mul]
    norm_num
  have hu : Ideal.ofBits FTy.f32 8388608#32 = ((2 ^ (-126 : ℤ) : ℝ) : EReal) := by
    simp [Ideal.ofBits, Ideal.ieee, -EReal.coe_mul]
    norm_num
  have ha : FloatOps.absf (F := Ideal) (φ := .f32) (x : EReal) = ((|x| : ℝ) : EReal) :=
    (EReal.coe_strictMono.monotone.map_max (a := x) (b := -x)).symm
  rw [hq, hu, ha, ← EReal.coe_mul, ← EReal.coe_add, ← EReal.coe_sub] at h
  have h' : |x| * 2 ^ (-23 : ℤ) + 2 ^ (-126 : ℤ) ≤ v - x := by
    by_contra hc
    rw [decide_eq_false (fun hle => hc (EReal.coe_le_coe_iff.mp hle))] at h
    exact absurd h (by decide)
  linarith

/-- Under the precondition the 64th greatest entry of a row of the attention exceeds the 65th by the stated gap. -/
theorem separate {C : FVec Ideal S2048x512 .f32} {W : FVec Ideal S16x512 .f32} (h : Cert.Pre_separated.fn (F := Ideal) C W = fun _ => 1#1)
    (i : Fin 2048) (v x : ℝ) (hv : attn C W i (order (attn C W i) 63) = v) (hx : attn C W i (order (attn C W i) 64) = x) :
    x + |x| * 2 ^ (-23 : ℤ) + 2 ^ (-126 : ℤ) ≤ v := by
  rw [fn_eq] at h
  have hr : (fun j => preAttn C W (ix2 i j)) = attn C W i := funext fun j => preAttn_apply C W i j
  have e := Host.reduce_andi_all _ _ _ _ _ (congrFun h (fun d => d.elim0)) (ix1 i)
  refine preTest_apply _ i e ?_ ?_
  · refine (topK_val (preAttn C W) sliceFits_S2048x2048_S2048x65 i 63 (by norm_num)).trans ?_
    rw [hr, preAttn_apply]
    exact hv
  · refine (topK_val (preAttn C W) sliceFits_S2048x2048_S2048x65 i 64 (by norm_num)).trans ?_
    rw [hr, preAttn_apply]
    exact hx

end Cert.Pre_separated.Hand

end
-- ==== Proof.Frames.lean ====
/-
  The three frame claims: each program runs, leaves its arguments as launched and every semaphore counter at zero.
-/
module

public import proofs.«01_k».proof.Defs
public import proofs.«01_k».proof.Proof.Run
public import proofs.«01_k».proof.Proof.WordRun
public import proofs.«01_k».proof.Proof.Gen.ReferenceIdeal.Run
public import proofs.«01_k».proof.Proof.PreFacts
public import Idealize.ShloMosaic.Lib.Quiescent

@[expose] public section

namespace Cert.Proof

open Idealize.ShloMosaic Idealize.SL.Sem

/-- The kernel over float words runs and leaves its arguments and the semaphores as they were. -/
theorem frame_kernel : @quiescent_Kernel Cert.Kernel.Gen.facts := fun m g _ =>
  (θ_run Cert.Kernel.defs _ _).mono (fun _ h => ⟨fun c => ⟨(h.1 c).1, (h.1 c).2.1⟩, h.2⟩) (Cert.Kernel.Hand.run_main (F := Bits) m g)

/-- The kernel over the extended reals runs and leaves its arguments and the semaphores as they were. -/
theorem frame_ideal : @quiescent_KernelIdeal Cert.KernelIdeal.Gen.facts := fun m g _ =>
  (θ_run Cert.KernelIdeal.defs _ _).mono (fun _ h => ⟨fun c => ⟨(h.1 c).1, (h.1 c).2.1⟩, h.2⟩) (Cert.KernelIdeal.Hand.run_main (F := Ideal) m g)

/-- The reference over the extended reals runs and leaves its arguments and the semaphores as they were. -/
theorem frame_reference : @quiescent_ReferenceIdeal Cert.ReferenceIdeal.Gen.facts := fun m g _ =>
  (θ_run Cert.ReferenceIdeal.defs _ _).mono (fun _ h => ⟨fun c => (h c).2, sem_eq_zero_of_no_sems (by decide) _⟩)
    (Cert.ReferenceIdeal.Value.run (F := Ideal) m g)

/-- The kernel's frame on the inputs of the value claim. -/
theorem frame_ideal_separated : @quiescent_KernelIdeal_pre_separated Cert.KernelIdeal.Gen.facts Cert.Pre_separated.Hand.facts :=
  fun m g _ => frame_ideal m g trivial

/-- The reference's frame on the inputs of the value claim. -/
theorem frame_reference_separated : @quiescent_ReferenceIdeal_pre_separated Cert.ReferenceIdeal.Gen.facts Cert.Pre_separated.Hand.facts :=
  fun m g _ => frame_reference m g trivial

end Cert.Proof
-- ==== Proof.Keys.lean ====
/-
  Binary32 words read as integers in the order of their values: the real number a key stands for, that it grows with the key,
  and how far apart the numbers of neighbouring keys can be.
-/
module

public import Idealize.ShloMosaic.PureOps.Ideal
public import Idealize.ShloMosaic.Lib.SortKey

@[expose] public section

noncomputable section

namespace Cert.Keys

open Idealize.ShloMosaic

/-- The magnitude word `u` as a multiple of the least positive number. -/
def units (u : ℕ) : ℕ := if u / 2 ^ 23 = 0 then u % 2 ^ 23 else (2 ^ 23 + u % 2 ^ 23) * 2 ^ (u / 2 ^ 23 - 1)

/-- The number a magnitude word stands for. -/
def mag (u : ℕ) : ℝ := (units u : ℝ) * (2 : ℝ) ^ (-149 : ℤ)

/-- The number a key stands for: key `z ≥ 0` is the word `z`, key `z < 0` the negative of the word `-1 - z`. -/
def keyVal (z : ℤ) : ℝ := if 0 ≤ z then mag z.toNat else -mag (-1 - z).toNat

/-- Neighbouring magnitudes differ by one unit of the last place, at most a `2⁻²³`th of the lower one or one least number. -/
theorem units_succ (u : ℕ) : units u ≤ units (u + 1) ∧ 2 ^ 23 * units (u + 1) ≤ 2 ^ 23 * units u + units u + 2 ^ 23 := by
  unfold units
  rw [show (2 : ℕ) ^ 23 = 8388608 from by norm_num]
  obtain ⟨e, r, hr, rfl⟩ : ∃ e r, r < 8388608 ∧ u = e * 8388608 + r :=
    ⟨u / 8388608, u % 8388608, Nat.mod_lt _ (by norm_num), by omega⟩
  have a0 : (e * 8388608 + r) / 8388608 = e := by omega
  have a1 : (e * 8388608 + r) % 8388608 = r := by omega
  by_cases h : r + 1 < 8388608
  · have b0 : (e * 8388608 + r + 1) / 8388608 = e := by
      have hx : r + 1 ≤ 8388608 := hr
      rw [Nat.add_assoc]
      generalize r + 1 = x at *
      clear a0 a1
      omega
    have b1 : (e * 8388608 + r + 1) % 8388608 = r + 1 := by
      have hx : r + 1 ≤ 8388608 := hr
      rw [Nat.add_assoc]
      generalize r + 1 = x at *
      clear a0 a1
      omega
    rw [a0, a1, b0, b1]
    split
    · omega
    · generalize 2 ^ (e - 1) = p
      constructor <;> nlinarith
  · have b0 : (e * 8388608 + r + 1) / 8388608 = e + 1 := by
      have hx : r + 1 ≤ 8388608 := hr
      rw [Nat.add_assoc]
      generalize r + 1 = x at *
      clear a0 a1
      omega
    have b1 : (e * 8388608 + r + 1) % 8388608 = 0 := by
      have hx : r + 1 ≤ 8388608 := hr
      rw [Nat.add_assoc]
      generalize r + 1 = x at *
      clear a0 a1
      omega
    rw [a0, a1, b0, b1, if_neg (show ¬ e + 1 = 0 by omega)]
    split
    · rename_i he
      subst he
      simp only [Nat.add_zero, Nat.zero_add, Nat.sub_self, Nat.pow_zero]
      omega
    · rename_i he
      obtain ⟨e, rfl⟩ : ∃ k, e = k + 1 := ⟨e - 1, by omega⟩
      have hrr : r = 8388608 - 1 := by omega
      subst hrr
      simp only [Nat.add_sub_cancel, Nat.pow_succ 2 e]
      generalize 2 ^ e = p
      constructor <;> omega

theorem mag_nonneg (u : ℕ) : 0 ≤ mag u := by unfold mag; positivity

theorem mag_le_succ (u : ℕ) : mag u ≤ mag (u + 1) := by
  unfold mag
  have := (units_succ u).1
  have : (units u : ℝ) ≤ units (u + 1) := by exact_mod_cast this
  exact mul_le_mul_of_nonneg_right this (by positivity)

theorem mag_succ_le (u : ℕ) : mag (u + 1) ≤ mag u + mag u * (2 : ℝ) ^ (-23 : ℤ) + (2 : ℝ) ^ (-149 : ℤ) := by
  have h := (units_succ u).2
  have h' : (2 : ℝ) ^ 23 * units (u + 1) ≤ 2 ^ 23 * units u + units u + 2 ^ 23 := by exact_mod_cast h
  unfold mag
  have e : (2 : ℝ) ^ (-149 : ℤ) = 2 ^ 23 * ((2 : ℝ) ^ (-23 : ℤ) * (2 : ℝ) ^ (-149 : ℤ)) := by norm_num
  have p : (0 : ℝ) < (2 : ℝ) ^ (-23 : ℤ) * (2 : ℝ) ^ (-149 : ℤ) := by positivity
  generalize hq : (2 : ℝ) ^ (-23 : ℤ) * (2 : ℝ) ^ (-149 : ℤ) = q at *
  have e2 : (units u : ℝ) * (2 : ℝ) ^ (-149 : ℤ) * (2 : ℝ) ^ (-23 : ℤ) = units u * q := by rw [← hq]; ring
  rw [e2, e]
  nlinarith

theorem mag_zero : mag 0 = 0 := by simp [mag, units]

/-- A greater key stands for a number at least as great. -/
theorem keyVal_mono : Monotone keyVal := by
  refine monotone_int_of_le_succ fun z => ?_
  unfold keyVal
  by_cases h : 0 ≤ z
  · rw [if_pos h, if_pos (by omega)]
    have : (z + 1).toNat = z.toNat + 1 := by omega
    rw [this]; exact mag_le_succ _
  · rw [if_neg h]
    by_cases h1 : 0 ≤ z + 1
    · rw [if_pos h1]
      have := mag_nonneg (-1 - z).toNat
      have := mag_nonneg (z + 1).toNat
      linarith
    · rw [if_neg h1]
      have : (-1 - z).toNat = (-1 - (z + 1)).toNat + 1 := by omega
      rw [this]
      linarith [mag_le_succ (-1 - (z + 1)).toNat]

/-- The least key reaching `x` overshoots it by less than a `2⁻²³`th of `|x|` and `2⁻¹²⁶`. -/
theorem keyVal_succ_lt {x : ℝ} {z : ℤ} (h0 : keyVal z < x) (h1 : x ≤ keyVal (z + 1)) :
    keyVal (z + 1) < x + |x| * (2 : ℝ) ^ (-23 : ℤ) + (2 : ℝ) ^ (-126 : ℤ) := by
  have hs : (2 : ℝ) ^ (-149 : ℤ) < (2 : ℝ) ^ (-126 : ℤ) := zpow_lt_zpow_right₀ (by norm_num) (by norm_num)
  have hp : (0 : ℝ) < (2 : ℝ) ^ (-23 : ℤ) := by positivity
  generalize (2 : ℝ) ^ (-126 : ℤ) = b at *
  unfold keyVal at h0 h1 ⊢
  by_cases h : 0 ≤ z
  · rw [if_pos h] at h0
    rw [if_pos (by omega)] at h1 ⊢
    have e : (z + 1).toNat = z.toNat + 1 := by omega
    rw [e] at h1 ⊢
    have s := mag_succ_le z.toNat
    have n := mag_nonneg z.toNat
    have a : |x| = x := abs_of_pos (by linarith)
    rw [a]
    have := mul_lt_mul_of_pos_right h0 hp
    linarith
  · rw [if_neg h] at h0
    by_cases hz : 0 ≤ z + 1
    · have e : (-1 - z).toNat = 0 := by omega
      have e' : (z + 1).toNat = 0 := by omega
      rw [if_pos hz, e', mag_zero] at h1
      rw [e, mag_zero] at h0
      linarith
    · rw [if_neg hz] at h1 ⊢
      have e : (-1 - z).toNat = (-1 - (z + 1)).toNat + 1 := by omega
      rw [e] at h0
      have s := mag_succ_le (-1 - (z + 1)).toNat
      have n := mag_nonneg (-1 - (z + 1)).toNat
      generalize mag (-1 - (z + 1)).toNat = M at *
      have a : |x| = -x := abs_of_nonpos (by linarith)
      rw [a]
      have : M * (2 : ℝ) ^ (-23 : ℤ) ≤ -x * (2 : ℝ) ^ (-23 : ℤ) := mul_le_mul_of_nonneg_right (by linarith) hp.le
      linarith

/-- The pattern a key's word has. -/
def keyWord (k : BitVec 32) : BitVec 32 := if 0 ≤ k.toInt then k else k ^^^ 0x7FFFFFFF#32

/-- A finite pattern with its sign clear stands for its magnitude, with its sign set for the negative. -/
theorem ieee_of_toNat (b : BitVec 32) (u : ℕ) (hu : u < 255 * 2 ^ 23) :
    (b.toNat = u → Ideal.ieee 8 23 b = ((mag u : ℝ) : EReal)) ∧
    (b.toNat = 2 ^ 31 + u → Ideal.ieee 8 23 b = ((-mag u : ℝ) : EReal)) := by
  have hz : (2 : ℝ) ^ (-149 : ℤ) ≠ 0 := by positivity
  have key : ∀ s : Bool, b.toNat = (if s then 2 ^ 31 else 0) + u →
      Ideal.ieee 8 23 b = (((if s then -1 else 1) * mag u : ℝ) : EReal) := by
    intro s hb
    have e0 : (b.extractLsb' (8 + 23) 1 == 1#1) = s := by
      have : (b.extractLsb' (8 + 23) 1).toNat = if s then 1 else 0 := by
        rw [BitVec.extractLsb'_toNat, Nat.shiftRight_eq_div_pow, hb]
        cases s
        · show (0 + u) / _ % _ = 0; omega
        · show (2 ^ 31 + u) / _ % _ = 1; omega
      cases s
      · rw [beq_eq_false_iff_ne]
        intro h; rw [h] at this; exact absurd this (by decide)
      · rw [beq_iff_eq]
        exact BitVec.eq_of_toNat_eq this
    have e1 : (b.extractLsb' 23 8).toNat = u / 2 ^ 23 := by
      rw [BitVec.extractLsb'_toNat, Nat.shiftRight_eq_div_pow, hb]
      cases s
      · show (0 + u) / _ % _ = _; omega
      · show (2 ^ 31 + u) / _ % _ = _; omega
    have e2 : (b.extractLsb' 0 23).toNat = u % 2 ^ 23 := by
      rw [BitVec.extractLsb'_toNat, Nat.shiftRight_eq_div_pow, hb]
      cases s
      · show (0 + u) / _ % _ = _; omega
      · show (2 ^ 31 + u) / _ % _ = _; omega
    unfold Ideal.ieee
    simp only [e0, e1, e2]
    rw [if_neg (by omega)]
    unfold mag units
    by_cases hx : u / 2 ^ 23 = 0
    · rw [if_pos hx, if_pos hx]
      congr 1
      rw [mul_assoc]
      norm_num
    · rw [if_neg hx, if_neg hx]
      congr 1
      obtain ⟨e, he⟩ : ∃ e, u / 2 ^ 23 = e + 1 := ⟨u / 2 ^ 23 - 1, by omega⟩
      rw [he, mul_assoc, Nat.add_sub_cancel, Nat.cast_mul, mul_assoc]
      congr 2
      have hq : ((2 ^ e : ℕ) : ℝ) * (2 : ℝ) ^ (-149 : ℤ) = (2 : ℝ) ^ ((e : ℤ) + -149) := by
        rw [zpow_add₀ (two_ne_zero : (2 : ℝ) ≠ 0), zpow_natCast]
        push_cast
        rfl
      refine Eq.trans ?_ hq.symm
      congr 1
      push_cast
      norm_num
      ring
  exact ⟨fun h => by simpa using key false (by simpa using h), fun h => by simpa using key true (by simpa using h)⟩

/-- A key between the search's first bounds stands for `keyVal`. -/
theorem ieee_keyWord (k : BitVec 32) (h0 : -1069547522 ≤ k.toInt) (h1 : k.toInt ≤ 1069547520) :
    Ideal.ieee 8 23 (keyWord k) = ((keyVal k.toInt : ℝ) : EReal) := by
  unfold keyWord keyVal
  have ht := BitVec.toInt_eq_toNat_cond k
  have hl := k.isLt
  by_cases h : 0 ≤ k.toInt
  · rw [if_pos h, if_pos h]
    exact (ieee_of_toNat k k.toInt.toNat (by omega)).1 (by split at ht <;> omega)
  · rw [if_neg h, if_neg h]
    refine (ieee_of_toNat _ (-1 - k.toInt).toNat (by omega)).2 ?_
    have hm : k.msb = true := by rw [BitVec.msb_eq_toInt, decide_eq_true_eq]; omega
    have hk := totalOrderKey_toNat_eq_sortableKey_toInt k
    rw [totalOrderKey_of_msb_true k hm, sortableKey_of_msb_true k hm, BitVec.toNat_not] at hk
    have h2 := BitVec.toInt_eq_toNat_cond (k ^^^ 0x7FFFFFFF#32)
    have hl2 := (k ^^^ 0x7FFFFFFF#32).isLt
    split at ht <;> split at h2 <;> omega

/-- The first bounds enclose `[-1, 1]`. -/
theorem keyVal_lo : keyVal (-1069547522) < -1 := by
  rw [keyVal, if_neg (by norm_num), show ((-1 : ℤ) - -1069547522).toNat = 1069547521 from rfl]
  simp only [mag, units]
  norm_num

theorem keyVal_hi : 1 < keyVal 1069547520 := by
  rw [keyVal, if_pos (by norm_num), show (1069547520 : ℤ).toNat = 1069547520 from rfl]
  simp only [mag, units]
  norm_num

/-- Between the bounds there is a key that separates `x` from any number far enough above it. -/
theorem exists_key {x v : ℝ} (hx0 : -1 ≤ x) (hx1 : x ≤ 1) (hv : x + |x| * (2 : ℝ) ^ (-23 : ℤ) + (2 : ℝ) ^ (-126 : ℤ) ≤ v) :
    ∃ z : ℤ, x ≤ keyVal z ∧ keyVal z < v := by
  have hH : x ≤ keyVal 1069547520 := hx1.trans keyVal_hi.le
  have hb : ∀ z : ℤ, x ≤ keyVal z → -1069547522 ≤ z := fun z hz => by
    by_contra hc
    have := keyVal_mono (show z ≤ -1069547522 by omega)
    linarith [keyVal_lo]
  obtain ⟨z, hz, hmin⟩ := Int.exists_least_of_bdd ⟨_, hb⟩ ⟨_, hH⟩
  refine ⟨z, hz, ?_⟩
  have hlt : keyVal (z - 1) < x := by
    by_contra hc
    have := hmin (z - 1) (not_lt.1 hc)
    omega
  have := keyVal_succ_lt hlt (by rw [sub_add_cancel]; exact hz)
  rw [sub_add_cancel] at this
  linarith

end Cert.Keys

end
-- ==== Proof.Search.lean ====
/-
  The threshold search over one row of a strip of real numbers: the key it ends with separates the 64 greatest entries of the row
  from the others, when the 64th and 65th greatest are far enough apart.
-/
module

public import proofs.«01_k».proof.Proof.Step
public import proofs.«01_k».proof.Proof.Keys
public import proofs.«01_k».proof.Proof.TopRow
public import proofs.«01_k».proof.Proof.Attn
public import Idealize.ShloMosaic.Lib.Pointwise
public import Idealize.ShloMosaic.Lib.WordArith
public import Idealize.ShloMosaic.Lib.WordCmp

@[expose] public section

noncomputable section

namespace Cert.KernelIdeal.Hand

open Cert.KernelIdeal Cert.KernelIdeal.Gen Cert.Keys Cert.TopRow
open Idealize.ShloMosaic

/-- The number a key word stands for. -/
def thr (k : BitVec 32) : EReal := Ideal.ieee 8 23 (keyWord k)

theorem thr_eq (k : BitVec 32) :
    Ideal.ofBits .f32 (Scalar.select (IntOp.cmpi .sge k 0#32) k (IntOp.xori k 2147483647#32)) = thr k := by
  show Ideal.ieee 8 23 _ = _
  unfold thr keyWord
  congr 1
  rw [WordCmp.cmpi_sge_eq, BitVec.toInt_zero, WordCmp.select_decide]
  rfl

variable (X : S512x2048.Idx → Elt Ideal .f32)

/-- How many entries of row `r` exceed `t`. -/
def above (r : Fin 512) (t : EReal) : ℕ := (Finset.univ.filter fun j : Fin 2048 => t < X (ix2 r j)).card

theorem indicator (p : Prop) [Decidable p] :
    (FloatOps.sitofp (F := Ideal) .f32 (BitVec.setWidth 32 (BitVec.ofBool (decide p))) : EReal) = ((if p then 1 else 0 : ℝ) : EReal) := by
  by_cases h : p
  · rw [if_pos h, decide_eq_true h]
    show (((1#32).toInt : ℝ) : EReal) = _
    norm_num
  · rw [if_neg h, decide_eq_false h]
    show (((0#32).toInt : ℝ) : EReal) = _
    norm_num

/-- The counts of the four column blocks of a row add up to the row's count. -/
theorem count_blocks (r : Fin 512) (t : EReal) :
    (∑ x, (FloatOps.sitofp (F := Ideal) .f32 (BitVec.setWidth 32 (BitVec.ofBool (decide (t < cols 0 X (ix2 r x))))) : EReal)) +
      (∑ x, (FloatOps.sitofp (F := Ideal) .f32 (BitVec.setWidth 32 (BitVec.ofBool (decide (t < cols 1 X (ix2 r x))))) : EReal)) +
      (∑ x, (FloatOps.sitofp (F := Ideal) .f32 (BitVec.setWidth 32 (BitVec.ofBool (decide (t < cols 2 X (ix2 r x))))) : EReal)) +
      (∑ x, (FloatOps.sitofp (F := Ideal) .f32 (BitVec.setWidth 32 (BitVec.ofBool (decide (t < cols 3 X (ix2 r x))))) : EReal))
      = ((above X r t : ℝ) : EReal) := by
  simp only [indicator]
  rw [← Cert.Attn.coe_sum, ← Cert.Attn.coe_sum, ← Cert.Attn.coe_sum, ← Cert.Attn.coe_sum, ← EReal.coe_add, ← EReal.coe_add,
    ← EReal.coe_add]
  congr 1
  have e : (above X r t : ℝ) = ∑ j : Fin 2048, if t < X (ix2 r j) then (1 : ℝ) else 0 := by
    unfold above
    rw [Finset.card_filter]
    push_cast
    rfl
  rw [Fin.sum_univ_tiles 4 512 (by norm_num) (fun j : Fin 2048 => if t < X (ix2 r j) then (1 : ℝ) else 0), Fin.sum_univ_four] at e
  rw [e]
  have ecol : ∀ (k : Fin 4) (x : Fin 512), cols k X (ix2 r x) = X (ix2 r ⟨k.val * 512 + x.val, by omega⟩) := fun k x => by
    show X (ix2 r ⟨512 * k.val + x.val, _⟩) = _
    congr 2
    exact Fin.ext (by show 512 * k.val + x.val = k.val * 512 + x.val; omega)
  simp only [ecol]

/-- One halving, at one row: the bounds move by whether at least 64 entries exceed the middle key's number. -/
theorem searchStep_row (p : IVec S512x1 32 × IVec S512x1 32) (r : Fin 512) :
    (searchStep X p).1 (ix2 r 0) = (if 64 ≤ above X r (thr (k1_pay48 p.1 p.2 (ix2 r 0))) then k1_pay48 p.1 p.2 (ix2 r 0) else p.1 (ix2 r 0)) ∧
    (searchStep X p).2 (ix2 r 0) = (if 64 ≤ above X r (thr (k1_pay48 p.1 p.2 (ix2 r 0))) then p.2 (ix2 r 0) else k1_pay48 p.1 p.2 (ix2 r 0)) := by
  have e : k1_pay54 (F := Ideal) (k1_pay50 p.1 p.2 (cols 0 X) (cols 1 X) (cols 2 X)) (k1_pay51 p.1 p.2 (cols 3 X)) (ix2 r 0)
      = BitVec.ofBool (decide (64 ≤ above X r (thr (k1_pay48 p.1 p.2 (ix2 r 0))))) := by
    have h49 : k1_pay49 (F := Ideal) p.1 p.2 (ix2 r 0) = thr (k1_pay48 p.1 p.2 (ix2 r 0)) := by
      pointwise [k1_pay49]
      exact thr_eq _
    pointwise [k1_pay54, k1_pay50, k1_pay51]
    rw [h49, count_blocks]
    congr 1
    refine decide_eq_decide.2 ?_
    have h64 : Ideal.ofBits .f32 1115684864#32 = (((64 : ℕ) : ℝ) : EReal) := by
      simp [Ideal.ofBits, Ideal.ieee, -EReal.coe_mul]
      norm_num
    rw [h64, EReal.coe_le_coe_iff, Nat.cast_le]
  constructor
  · show Scalar.select (k1_pay54 (F := Ideal) _ _ (ix2 r 0)) _ _ = _
    rw [e, WordCmp.select_decide]
  · show Scalar.select (k1_pay54 (F := Ideal) _ _ (ix2 r 0)) _ _ = _
    rw [e, WordCmp.select_decide]

/-- The middle key is the integer middle of the bounds. -/
theorem mid_toInt (lo hi : IVec S512x1 32) (r : Fin 512) (h0 : -1069547522 ≤ (lo (ix2 r 0)).toInt) (h1 : (hi (ix2 r 0)).toInt ≤ 1069547520)
    (h2 : (lo (ix2 r 0)).toInt < (hi (ix2 r 0)).toInt) :
    (k1_pay48 lo hi (ix2 r 0)).toInt = ((lo (ix2 r 0)).toInt + (hi (ix2 r 0)).toInt) / 2 := by
  show (IntOp.shrsi .vector (lo (ix2 r 0) + hi (ix2 r 0)) 1#32).toInt = _
  have hs := WordArith.toInt_add_of_bounds (lo (ix2 r 0)) (hi (ix2 r 0)) (by omega) (by omega)
  unfold IntOp.shrsi
  rw [if_pos (by decide), BitVec.toInt_sshiftRight', hs, Int.shiftRight_eq_div_pow]
  rfl

/-- What holds of row `r`'s bounds after `n` halvings, `v` being the row's 64th greatest entry. -/
def Bounds (v : ℝ) (n : ℕ) (lo hi : ℤ) : Prop :=
  -1069547522 ≤ lo ∧ hi ≤ 1069547520 ∧ lo < hi ∧ hi - lo ≤ 2 ^ (31 - n) ∧ keyVal lo < v ∧ v ≤ keyVal hi

theorem bounds_step {v : ℝ} {r : Fin 512} (hc : ∀ t : EReal, 64 ≤ above X r t ↔ t < (v : EReal)) {n : ℕ} (hn : n < 31)
    {p : IVec S512x1 32 × IVec S512x1 32} (h : Bounds v n (p.1 (ix2 r 0)).toInt (p.2 (ix2 r 0)).toInt) :
    Bounds v (n + 1) ((searchStep X p).1 (ix2 r 0)).toInt ((searchStep X p).2 (ix2 r 0)).toInt := by
  obtain ⟨h0, h1, h2, h3, h4, h5⟩ := h
  have hm := mid_toInt p.1 p.2 r h0 h1 h2
  obtain ⟨s1, s2⟩ := searchStep_row X p r
  rw [s1, s2]
  generalize k1_pay48 p.1 p.2 (ix2 r 0) = m at *
  have ht : thr m = ((keyVal m.toInt : ℝ) : EReal) := ieee_keyWord m (by omega) (by omega)
  have hp : (2 : ℤ) ^ (31 - n) = 2 * 2 ^ (31 - (n + 1)) := by
    rw [show 31 - n = 31 - (n + 1) + 1 from by omega, pow_succ]
    ring
  have hpos : (1 : ℤ) ≤ 2 ^ (31 - (n + 1)) := one_le_pow₀ (by norm_num)
  rw [hp] at h3
  unfold Bounds
  generalize (2 : ℤ) ^ (31 - (n + 1)) = w at *
  by_cases hk : 64 ≤ above X r (thr m)
  · rw [if_pos hk, if_pos hk]
    have := (hc _).1 hk
    rw [ht, EReal.coe_lt_coe_iff] at this
    exact ⟨by omega, by omega, by omega, by omega, this, h5⟩
  · rw [if_neg hk, if_neg hk]
    have hv : v ≤ keyVal m.toInt := by
      by_contra hlt
      exact hk ((hc _).2 (by rw [ht, EReal.coe_lt_coe_iff]; exact not_le.1 hlt))
    have hne : (p.1 (ix2 r 0)).toInt ≠ m.toInt := fun e => by rw [e] at h4; linarith
    exact ⟨by omega, by omega, by omega, by omega, h4, hv⟩

/-- The searched key's number lies at or above the row's 65th greatest entry and below its 64th. -/
theorem searchLo_between {r : Fin 512} {v x : ℝ} (hc : ∀ t : EReal, 64 ≤ above X r t ↔ t < (v : EReal)) (hv0 : -1 ≤ v) (hv1 : v ≤ 1)
    (hx0 : -1 ≤ x) (hx1 : x ≤ 1) (hsep : x + |x| * (2 : ℝ) ^ (-23 : ℤ) + (2 : ℝ) ^ (-126 : ℤ) ≤ v) :
    (x : EReal) ≤ thr (searchLo X (ix2 r 0)) ∧ thr (searchLo X (ix2 r 0)) < (v : EReal) := by
  have hb : ∀ n ≤ 31, Bounds v n (((searchStep X)^[n] (k1_pay52, k1_pay53)).1 (ix2 r 0)).toInt
      (((searchStep X)^[n] (k1_pay52, k1_pay53)).2 (ix2 r 0)).toInt := by
    intro n
    induction n with
    | zero =>
      intro _
      have e0 : (k1_pay52 (ix2 r 0)).toInt = -1069547522 := by
        show (3225419774#32).toInt = _
        decide
      have e1 : (k1_pay53 (ix2 r 0)).toInt = 1069547520 := by
        show (1069547520#32).toInt = _
        decide
      show Bounds v 0 (k1_pay52 (ix2 r 0)).toInt (k1_pay53 (ix2 r 0)).toInt
      rw [e0, e1]
      exact ⟨by norm_num, by norm_num, by norm_num, by norm_num, lt_of_lt_of_le keyVal_lo hv0, hv1.trans keyVal_hi.le⟩
    | succ n ih =>
      intro hn
      rw [Function.iterate_succ_apply']
      exact bounds_step X hc (by omega) (ih (by omega))
  obtain ⟨h0, h1, h2, h3, h4, h5⟩ := hb 31 (le_refl _)
  have ht : thr (searchLo X (ix2 r 0)) = ((keyVal (searchLo X (ix2 r 0)).toInt : ℝ) : EReal) := ieee_keyWord _ h0 (by
    unfold searchLo
    omega)
  obtain ⟨z, hz0, hz1⟩ := exists_key hx0 hx1 hsep
  have hlo : keyVal (searchLo X (ix2 r 0)).toInt < v := h4
  have hz : z ≤ (searchLo X (ix2 r 0)).toInt := by
    by_contra hcon
    have h6 : (((searchStep X)^[31] (k1_pay52, k1_pay53)).2 (ix2 r 0)).toInt ≤ z := by
      unfold searchLo at hcon
      rw [show (2 : ℤ) ^ (31 - 31) = 1 from rfl] at h3
      omega
    linarith [keyVal_mono h6]
  rw [ht, EReal.coe_le_coe_iff, EReal.coe_lt_coe_iff]
  exact ⟨hz0.trans (keyVal_mono hz), hlo⟩

theorem maskRows_row (r : Fin 512) (j : Fin 2048) :
    maskRows X (ix2 r j) = if thr (searchLo X (ix2 r 0)) < X (ix2 r j) then X (ix2 r j) else (0 : EReal) := by
  have e : cols ⟨j.val / 512, Nat.div_lt_of_lt_mul j.isLt⟩ X (ix2 r ⟨j.val % 512, Nat.mod_lt _ (by decide)⟩) = X (ix2 r j) := by
    show X (ix2 r ⟨512 * (j.val / 512) + j.val % 512, _⟩) = _
    congr 2
    exact Fin.ext (Nat.div_add_mod _ _)
  show k1_pay58 (F := Ideal) (searchLo X) (cols ⟨j.val / 512, _⟩ X) (ix2 r ⟨j.val % 512, _⟩) = _
  rw [← e]
  pointwise [k1_pay58, k1_pay57]
  rw [thr_eq]

/-- Row `r` of a strip of numbers between -1 and 1, masked: some threshold from the 65th greatest entry up to below the 64th
    decides which entries stay. -/
theorem maskRows_threshold (r : Fin 512) (a : Fin 2048 → EReal) (ha : ∀ j, X (ix2 r j) = a j)
    (hreal : ∀ j, ∃ y : ℝ, a j = (y : EReal) ∧ -1 ≤ y ∧ y ≤ 1)
    (hsep : ∀ v x : ℝ, a (order a 63) = (v : EReal) → a (order a 64) = (x : EReal) →
      x + |x| * (2 : ℝ) ^ (-23 : ℤ) + (2 : ℝ) ^ (-126 : ℤ) ≤ v) :
    ∃ t : EReal, t < a (order a 63) ∧ a (order a 64) ≤ t ∧ ∀ j, maskRows X (ix2 r j) = if t < a j then a j else (0 : EReal) := by
  obtain ⟨v, hv, hv0, hv1⟩ := hreal (order a 63)
  obtain ⟨x, hx, hx0, hx1⟩ := hreal (order a 64)
  have hc : ∀ t : EReal, 64 ≤ above X r t ↔ t < (v : EReal) := fun t => by
    rw [← hv]
    unfold above
    simp only [ha]
    exact lt_count_iff a t 63
  have h := searchLo_between X hc hv0 hv1 hx0 hx1 (hsep v x hv hx)
  refine ⟨thr (searchLo X (ix2 r 0)), by rw [hv]; exact h.2, by rw [hx]; exact h.1, fun j => ?_⟩
  rw [maskRows_row, ha]

end Cert.KernelIdeal.Hand

end
-- ==== Proof.KernelAttn.lean ====
/-
  The strips the kernel masks hold the attention of the rows: inverse lengths, scaled rows, blocks on and off the diagonal.
-/
module

public import proofs.«01_k».proof.Proof.Run
public import proofs.«01_k».proof.Proof.Attn
public import Idealize.ShloMosaic.Lib.Pointwise

@[expose] public section

noncomputable section

namespace Cert.KernelIdeal.Hand

open Cert.KernelIdeal Cert.KernelIdeal.Gen Cert.Attn
open Idealize.ShloMosaic

variable (C : S2048x512.Idx → Elt Ideal .f32) (W : S16x512.Idx → Elt Ideal .f32)

/-- Row `512 k + r`. -/
abbrev rowOf (k : Fin 4) (r : Fin 512) : Fin 2048 := ⟨512 * k.val + r.val, by omega⟩

theorem rows_apply {n : ℕ} (k : Fin 4) (X : (⟨2, ![2048, n]⟩ : Shape).Idx → EReal) (r : Fin 512) (l : Fin n) :
    rows k X (ix2 r l) = X (ix2 (rowOf k r) l) := rfl

/-- The first kernel's result: the inverse of the length each row is divided by. -/
theorem normV_apply (k : Fin 4) (r : Fin 512) (p : Fin 16) :
    normV C W (ix2 (rowOf k r) p) = Ideal.div 1 (length C W p (rowOf k r)) := by
  have hk : (⟨(rowOf k r).val / 512, Nat.div_lt_of_lt_mul (rowOf k r).isLt⟩ : Fin 4) = k :=
    Fin.ext (by show (512 * k.val + r.val) / 512 = k.val; omega)
  have hr : (⟨(rowOf k r).val % 512, Nat.mod_lt _ (by decide)⟩ : Fin 512) = r :=
    Fin.ext (by show (512 * k.val + r.val) % 512 = r.val; omega)
  show k0_pay1 (F := Ideal) (rows ⟨(rowOf k r).val / 512, _⟩ C) W (ix2 ⟨(rowOf k r).val % 512, _⟩ p) = _
  rw [hk, hr]
  pointwise [k0_pay1]
  unfold Cert.Attn.length weighted eps
  simp only [rows_apply]
  congr 4
  exact funext fun x => mul_mul_mul_comm (G := EReal) _ _ _ _

/-- The strip of scaled rows. -/
theorem strip_apply (k : Fin 4) (r : Fin 512) (p : Fin 16) (d : Fin 512) :
    strip C W (normV C W) k (ix2 r ⟨p.val * 512 + d.val, by omega⟩) = scaled C W p (rowOf k r) d := by
  have hd : (⟨(p.val * 512 + d.val) % 512, Nat.mod_lt _ (by decide)⟩ : Fin 512) = d :=
    Fin.ext (by show (p.val * 512 + d.val) % 512 = d.val; omega)
  have hp : (⟨(p.val * 512 + d.val) / 512, by omega⟩ : Fin 16) = p :=
    Fin.ext (by show (p.val * 512 + d.val) / 512 = p.val; omega)
  show (rows k C (ix2 r ⟨(p.val * 512 + d.val) % 512, _⟩) * W (ix2 ⟨(p.val * 512 + d.val) / 512, _⟩ ⟨(p.val * 512 + d.val) % 512, _⟩))
    * rows k (normV C W) (ix2 r ⟨(p.val * 512 + d.val) / 512, _⟩) = _
  rw [hd, hp, rows_apply, rows_apply, normV_apply]
  unfold scaled
  exact Ideal.mul_one_div (length_ne_zero C W p _)

/-- A block of the attention: the product of two strips over 16. -/
theorem pay5_apply (i j : Fin 4) (r l : Fin 512) :
    k1_pay5 (F := Ideal) (strip C W (normV C W) i) (strip C W (normV C W) j) (ix2 r l) = attn C W (rowOf i r) (rowOf j l) := by
  pointwise [k1_pay5]
  rw [Fin.sum_univ_tiles 16 512 (by norm_num)]
  simp only [strip_apply]
  unfold attn
  rw [Ideal.div_coe (by norm_num)]
  congr 1
  simp [Ideal.ofBits, Ideal.ieee, -EReal.coe_mul]
  norm_num

theorem attn_comm (i j : Fin 2048) : attn C W i j = attn C W j i := by
  unfold attn
  congr 1
  exact Finset.sum_congr rfl fun p _ => Finset.sum_congr rfl fun d _ => mul_comm _ _

theorem blk_apply (i j : Fin 4) (r l : Fin 512) : blk C W (normV C W) i j (ix2 r l) = attn C W (rowOf i r) (rowOf j l) := by
  unfold blk
  split
  · exact pay5_apply C W i j r l
  · pointwise [k1_pay6]
    rw [pay5_apply, attn_comm]

/-- Strip `i` holds the attention of rows `512 i … 512 i + 511` with every row. -/
theorem att_apply (i : Fin 4) (r : Fin 512) (l : Fin 2048) : att C W (normV C W) i (ix2 r l) = attn C W (rowOf i r) l := by
  show blk C W (normV C W) i ⟨l.val / 512, _⟩ (ix2 r ⟨l.val % 512, _⟩) = _
  rw [blk_apply]
  congr 1
  exact Fin.ext (Nat.div_add_mod _ _)

end Cert.KernelIdeal.Hand

end
-- ==== Proof.RefValue.lean ====
/-
  The reference's result read at an index: the attention it computes, the places it writes, and a row of its result.
-/
module

public import proofs.«01_k».proof.Proof.Gen.ReferenceIdeal.Run
public import proofs.«01_k».proof.Proof.Attn
public import proofs.«01_k».proof.Proof.TopKRead
public import Idealize.ShloMosaic.Lib.Pointwise
public import Idealize.ShloMosaic.Lib.ScatterToDense.RefScatter

@[expose] public section

noncomputable section

namespace Cert.ReferenceIdeal.Hand

open Cert.ReferenceIdeal Cert.ReferenceIdeal.Gen Cert.Attn Cert.TopRow
open Idealize.ShloMosaic Idealize.SL.Sem

/-- The scaled rows. -/
def refScaled (C : FVec Ideal S2048x512 .f32) (W : FVec Ideal S16x512 .f32) : FVec Ideal S16x2048x512 .f32 :=
  Host.divf (mulf (broadcastInDim S16x2048x512 ![0, 1, 2] bcast_S1x2048x512_S16x2048x512_0_1_2 (broadcastInDim S1x2048x512 ![1, 2] bcast_S2048x512_S1x2048x512_1_2 C)) (broadcastInDim S16x2048x512 ![0, 1, 2] bcast_S16x1x512_S16x2048x512_0_1_2 (broadcastInDim S16x1x512 ![0, 2] bcast_S16x512_S16x1x512_0_2 W))) (broadcastInDim S16x2048x512 ![0, 1, 2] bcast_S16x2048x1_S16x2048x512_0_1_2 (maximumf (Host.sqrt (broadcastInDim S16x2048x1 ![0, 1] bcast_S16x2048_S16x2048x1_0_1 (Host.reduceAdd (mulf (mulf (broadcastInDim S16x2048x512 ![0, 1, 2] bcast_S1x2048x512_S16x2048x512_0_1_2 (broadcastInDim S1x2048x512 ![1, 2] bcast_S2048x512_S1x2048x512_1_2 C)) (broadcastInDim S16x2048x512 ![0, 1, 2] bcast_S16x1x512_S16x2048x512_0_1_2 (broadcastInDim S16x1x512 ![0, 2] bcast_S16x512_S16x1x512_0_2 W))) (mulf (broadcastInDim S16x2048x512 ![0, 1, 2] bcast_S1x2048x512_S16x2048x512_0_1_2 (broadcastInDim S1x2048x512 ![1, 2] bcast_S2048x512_S1x2048x512_1_2 C)) (broadcastInDim S16x2048x512 ![0, 1, 2] bcast_S16x1x512_S16x2048x512_0_1_2 (broadcastInDim S16x1x512 ![0, 2] bcast_S16x512_S16x1x512_0_2 W)))) (constant S_ .f32 0x00000000#32) reducesTo_S16x2048x512_S16x2048_d2 h_S_))) (broadcastInDim S16x2048x1 ![] bcast_S_S16x2048x1 (constant S_ .f32 0x2B8CBCCC#32))))

/-- The attention. -/
def refAttn (C : FVec Ideal S2048x512 .f32) (W : FVec Ideal S16x512 .f32) : FVec Ideal S2048x2048 .f32 :=
  Host.divf (Host.reduceAdd (Host.dotGeneral dot_S16x2048x512_S16x512x2048_S16x2048x2048_2_1_1_2_0_0 none (refScaled C W) (transpose S16x512x2048 [0, 2, 1] (refScaled C W) transposes_S16x2048x512_S16x512x2048_0_2_1)) (constant S_ .f32 0x00000000#32) reducesTo_S16x2048x2048_S2048x2048_d0 h_S_) (broadcastInDim S2048x2048 ![] bcast_S_S2048x2048 (constant S_ .f32 0x41800000#32))

/-- The places written: of every row its own number and the places of its greatest entries. -/
def refPlaces (A : FVec Ideal S2048x2048 .f32) : IVec S2048x64x2 32 :=
  concatenate S2048x64x2 2 [⟨S2048x64x1, (broadcastInDim S2048x64x1 ![0, 1] bcast_S2048x64_S2048x64x1_0_1 (broadcastInDim S2048x64 ![0, 1] bcast_S2048x1_S2048x64_0_1 (select (cmpi .slt (broadcastInDim S2048x1 ![0] bcast_S2048_S2048x1_0 (iotaInDim S2048 32 0)) (broadcastInDim S2048x1 ![] bcast_S_S2048x1 (constantI S_ 32 0#32))) (addi (broadcastInDim S2048x1 ![0] bcast_S2048_S2048x1_0 (iotaInDim S2048 32 0)) (broadcastInDim S2048x1 ![] bcast_S_S2048x1 (constantI S_ 32 2048#32))) (broadcastInDim S2048x1 ![0] bcast_S2048_S2048x1_0 (iotaInDim S2048 32 0)))))⟩, ⟨S2048x64x1, (broadcastInDim S2048x64x1 ![0, 1] bcast_S2048x64_S2048x64x1_0_1 (select (cmpi .slt ((Host.topK S2048x64 1 (FloatOps.cmpfTotal .gt) A sliceFits_S2048x2048_S2048x64).2) (broadcastInDim S2048x64 ![] bcast_S_S2048x64 (constantI S_ 32 0#32))) (addi ((Host.topK S2048x64 1 (FloatOps.cmpfTotal .gt) A sliceFits_S2048x2048_S2048x64).2) (broadcastInDim S2048x64 ![] bcast_S_S2048x64 (constantI S_ 32 2048#32))) ((Host.topK S2048x64 1 (FloatOps.cmpfTotal .gt) A sliceFits_S2048x2048_S2048x64).2)))⟩] concatenates_S2048x64x1_S2048x64x1_S2048x64x2_d2

/-- The attention with everything but the greatest entries of every row replaced by zero. -/
def refOut (A : FVec Ideal S2048x2048 .f32) : FVec Ideal S2048x2048 .f32 :=
  Host.scatter scatter_S2048x2048_S2048x64x2_S2048x64_n_01_01_2 (fun _ b => b) (broadcastInDim S2048x2048 ![] bcast_S_S2048x2048 (constant S_ .f32 0x00000000#32)) (refPlaces A) ((Host.topK S2048x64 1 (FloatOps.cmpfTotal .gt) A sliceFits_S2048x2048_S2048x64).1)

/-- The reference's result is those entries of its attention. -/
theorem res_eq (m : (ℓ : Loc nD τ sig) → Buf (Elt Ideal) ℓ) (c : Dev nD) :
    Value.res_main_v35 m c = refOut (refAttn (m ((c.tc : Thread nD τ).loc main_arg0)) (m ((c.tc : Thread nD τ).loc main_arg1))) := rfl

/-- A scaled row's entry. -/
theorem refScaled_apply (C : FVec Ideal S2048x512 .f32) (W : FVec Ideal S16x512 .f32) (p : Fin 16) (i : Fin 2048) (d : Fin 512) :
    refScaled C W (ix3 p i d) = scaled C W p i d := by
  delta refScaled
  pointwise
  rfl

/-- An entry of the attention. -/
theorem refAttn_apply (C : FVec Ideal S2048x512 .f32) (W : FVec Ideal S16x512 .f32) (i j : Fin 2048) :
    refAttn C W (ix2 i j) = attn C W i j := by
  delta refAttn
  pointwise
  simp only [refScaled_apply]
  unfold attn
  congr 1
  simp [Ideal.ofBits, Ideal.ieee, -EReal.coe_mul]
  norm_num

/-- A word of a small number is not negative, so it is left as it is. -/
theorem select_small {x : ℕ} (hx : x < 2048) (y : BitVec 32) :
    Scalar.select (IntOp.cmpi .slt (BitVec.ofNat 32 x) 0#32) y (BitVec.ofNat 32 x) = BitVec.ofNat 32 x := by
  rw [WordCmp.cmpi_slt_zero, WordCmp.select_decide, if_neg]
  rw [BitVec.toNat_ofNat]
  omega

/-- The row a place names is its own. -/
theorem refPlaces_row (A : FVec Ideal S2048x2048 .f32) (i : Fin 2048) (k : Fin 64) :
    refPlaces A (ix3 i k 0) = BitVec.ofNat 32 i.val := by
  delta refPlaces
  pointwise
  exact select_small i.isLt _

/-- The column it names is where the `k`-th greatest entry of the row lies. -/
theorem refPlaces_col (A : FVec Ideal S2048x2048 .f32) (i : Fin 2048) (k : Fin 64) :
    refPlaces A (ix3 i k 1) = BitVec.ofNat 32 (order (fun j => A (ix2 i j)) ⟨k.val, by omega⟩).val := by
  delta refPlaces
  pointwise
  have e := topK_place A sliceFits_S2048x2048_S2048x64 i k (by omega)
  rw [e]
  exact select_small (Fin.isLt _) _

/-- A row of the result: where `t` parts the 64 greatest entries from the others, the entries above `t`. -/
theorem refOut_apply (A : FVec Ideal S2048x2048 .f32) (i : Fin 2048) {t : EReal}
    (h0 : t < A (ix2 i (order (fun j => A (ix2 i j)) 63))) (h1 : A (ix2 i (order (fun j => A (ix2 i j)) 64)) ≤ t) (j : Fin 2048) :
    refOut A (ix2 i j) = if t < A (ix2 i j) then A (ix2 i j) else 0 := by
  delta refOut
  let word : Fin 2048 → ℕ → BitVec 32 := fun i k =>
    if h : k < 2048 then BitVec.ofNat 32 (order (fun j => A (ix2 i j)) ⟨k, h⟩).val else 0#32
  let val : Fin 2048 → ℕ → Ideal .f32 := fun i k =>
    if h : k < 2048 then A (ix2 i (order (fun j => A (ix2 i j)) ⟨k, h⟩)) else 0
  have hw : ∀ i k (hk : k < 2048), word i k = BitVec.ofNat 32 (order (fun j => A (ix2 i j)) ⟨k, hk⟩).val := fun i k hk => by
    simp only [word, dif_pos hk]
  have hv : ∀ i k (hk : k < 2048), val i k = A (ix2 i (order (fun j => A (ix2 i j)) ⟨k, hk⟩)) := fun i k hk => by
    simp only [val, dif_pos hk]
  have hfill : (broadcastInDim S2048x2048 ![] bcast_S_S2048x2048 (constant (F := Ideal) S_ .f32 0x00000000#32)) (ix2 i j) = 0 := by
    pointwise
  have e := ScatterToDense.scatter_eq_GS scatter_S2048x2048_S2048x64x2_S2048x64_n_01_01_2 rfl rfl rfl (by norm_num) (by norm_num)
    (broadcastInDim S2048x2048 ![] bcast_S_S2048x2048 (constant (F := Ideal) S_ .f32 0x00000000#32)) (refPlaces A)
    ((Host.topK S2048x64 1 (FloatOps.cmpfTotal .gt) A sliceFits_S2048x2048_S2048x64).1) word val
    (fun i k => by rw [← ix3_eq_valueIdx]; exact refPlaces_row A i k)
    (fun i k => by rw [← ix3_eq_valueIdx]; exact (refPlaces_col A i k).trans (hw i k (by omega)).symm)
    (fun i k => by
      rw [← ix2_eq_valueIdx]
      exact (topK_val A sliceFits_S2048x2048_S2048x64 i k (by omega)).trans (hv i k (by omega)).symm) i j
  rw [← ix2_eq_valueIdx, hfill] at e
  refine e.trans ?_
  exact GS_order (fun j => A (ix2 i j)) (i := 63) (i' := 64) rfl rfl (by norm_num) h0 h1 (word i) (val i)
    (fun k hk => hw i k (by omega)) (fun k hk => hv i k (by omega)) j

end Cert.ReferenceIdeal.Hand

end
-- ==== Proof.Algebraic.lean ====
/-
  The value claim: under the precondition the kernel and the reference leave the same array.
-/
module

public import proofs.«01_k».proof.Defs
public import proofs.«01_k».proof.Proof.Run
public import proofs.«01_k».proof.Proof.Search
public import proofs.«01_k».proof.Proof.KernelAttn
public import proofs.«01_k».proof.Proof.RefValue
public import proofs.«01_k».proof.Proof.PreFacts

@[expose] public section

namespace Cert.Proof

open Idealize.ShloMosaic Idealize.SL.Sem Cert.Attn Cert.TopRow

/-- A row of the kernel's result and the same row of the reference's are equal, where the 64th entry is far enough above the 65th. -/
theorem row_eq (C : FVec Ideal Cert.KernelIdeal.S2048x512 .f32) (W : FVec Ideal Cert.KernelIdeal.S16x512 .f32) (k : Fin 4) (r : Fin 512)
    (hsep : ∀ v x : ℝ, attn C W (Cert.KernelIdeal.Hand.rowOf k r) (order (attn C W (Cert.KernelIdeal.Hand.rowOf k r)) 63) = v →
      attn C W (Cert.KernelIdeal.Hand.rowOf k r) (order (attn C W (Cert.KernelIdeal.Hand.rowOf k r)) 64) = x →
      x + |x| * (2 : ℝ) ^ (-23 : ℤ) + (2 : ℝ) ^ (-126 : ℤ) ≤ v) (j : Fin 2048) :
    Cert.KernelIdeal.Hand.maskRows (F := Ideal) (Cert.KernelIdeal.Hand.att C W (Cert.KernelIdeal.Hand.normV C W) k) (ix2 r j)
      = Cert.ReferenceIdeal.Hand.refOut (Cert.ReferenceIdeal.Hand.refAttn C W) (ix2 (Cert.KernelIdeal.Hand.rowOf k r) j) := by
  obtain ⟨t, h0, h1, e⟩ := Cert.KernelIdeal.Hand.maskRows_threshold (Cert.KernelIdeal.Hand.att C W (Cert.KernelIdeal.Hand.normV C W) k) r
    (attn C W (Cert.KernelIdeal.Hand.rowOf k r)) (fun j => Cert.KernelIdeal.Hand.att_apply C W k r j) (fun j => attn_real C W _ j) hsep
  have hr : (fun j => Cert.ReferenceIdeal.Hand.refAttn C W (ix2 (Cert.KernelIdeal.Hand.rowOf k r) j)) = attn C W (Cert.KernelIdeal.Hand.rowOf k r) :=
    funext fun j => Cert.ReferenceIdeal.Hand.refAttn_apply C W _ j
  have e' := Cert.ReferenceIdeal.Hand.refOut_apply (Cert.ReferenceIdeal.Hand.refAttn C W) (Cert.KernelIdeal.Hand.rowOf k r) (t := t)
    (by rw [hr, Cert.ReferenceIdeal.Hand.refAttn_apply]; exact h0) (by rw [hr, Cert.ReferenceIdeal.Hand.refAttn_apply]; exact h1) j
  rw [Cert.ReferenceIdeal.Hand.refAttn_apply] at e'
  exact (e j).trans e'.symm

/-- The kernel's result is the reference's, under the precondition. -/
theorem out_eq_ref (m : (ℓ : Loc Cert.KernelIdeal.nD Cert.KernelIdeal.τ Cert.KernelIdeal.sig) → Buf (Elt Ideal) ℓ) (c : Dev Cert.KernelIdeal.nD)
    (h : Cert.Pre_separated.fn (F := Ideal) (Cert.KernelIdeal.Hand.inC m c) (Cert.KernelIdeal.Hand.inW m c) = fun _ => 1#1) :
    Cert.KernelIdeal.Hand.outV m c
      = Cert.ReferenceIdeal.Hand.refOut (Cert.ReferenceIdeal.Hand.refAttn (Cert.KernelIdeal.Hand.inC m c) (Cert.KernelIdeal.Hand.inW m c)) := by
  funext y
  unfold Cert.KernelIdeal.Hand.outV
  rw [Cert.KernelIdeal.Hand.inR_eq]
  refine (row_eq (Cert.KernelIdeal.Hand.inC m c) (Cert.KernelIdeal.Hand.inW m c) _ _ (Cert.Pre_separated.Hand.separate h _) (y 1)).trans ?_
  refine congrArg _ (funext fun d => ?_)
  match d with
  | ⟨0, _⟩ => exact Fin.ext (Nat.div_add_mod (y 0).val 512)
  | ⟨1, _⟩ => rfl

/-- The value claim. -/
theorem algebraic : @algebraic_KernelIdeal_ReferenceIdeal_pre_separated Cert.KernelIdeal.Gen.facts Cert.ReferenceIdeal.Gen.facts
    Cert.Pre_separated.Hand.facts := fun m g m' g' hpre hargs => by
  refine ⟨fun c => Cert.KernelIdeal.Hand.outV m c, ?_, ?_⟩
  · exact (θ_run Cert.KernelIdeal.defs _ _).mono (fun _ h c => ⟨(h.1 c).2.2, (h.1 c).1, (h.1 c).2.1⟩) (Cert.KernelIdeal.Hand.run_main (F := Ideal) m g)
  · refine (θ_run Cert.ReferenceIdeal.defs _ _).mono (fun _ h c => ⟨(h c).1.trans ?_, (h c).2⟩) (Cert.ReferenceIdeal.Value.run (F := Ideal) m' g')
    refine (Cert.ReferenceIdeal.Hand.res_eq m' c).trans ?_
    rw [(hargs c).1, (hargs c).2]
    exact (out_eq_ref m c (hpre c)).symm

end Cert.Proof
-- ==== Proof.lean ====
/-
  The proof of the certificate's claim.
-/
module

public import proofs.«01_k».proof.Defs
public import proofs.«01_k».proof.Proof.Frames
public import proofs.«01_k».proof.Proof.Algebraic

@[expose] public section

noncomputable section

namespace Cert.Proof

/-- The certificate's claim: the frames of the three programs and the value claim. -/
theorem claim : Cert.Claim := ⟨Cert.Kernel.Gen.facts, Cert.KernelIdeal.Gen.facts, Cert.ReferenceIdeal.Gen.facts, Cert.Pre_separated.Hand.facts,
  frame_kernel, frame_ideal, frame_ideal_separated, frame_reference, frame_reference_separated, trivial, algebraic⟩

end Cert.Proof

end
